-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelRw (m : (ℓ : Loc Cert.KernelRw.nD Cert.KernelRw.τ Cert.KernelRw.sig) → Buf (Elt Bits) ℓ) : Prop :=
  True

def Pre_KernelRwIdeal (m : (ℓ : Loc Cert.KernelRwIdeal.nD Cert.KernelRwIdeal.τ Cert.KernelRwIdeal.sig) → Buf (Elt Ideal) ℓ) : Prop :=
  True

def Pre_ReferenceRwIdeal (m : (ℓ : Loc Cert.ReferenceRwIdeal.nD Cert.ReferenceRwIdeal.τ Cert.ReferenceRwIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_ReferenceFoxIdeal (m : (ℓ : Loc Cert.ReferenceFoxIdeal.nD Cert.ReferenceFoxIdeal.τ Cert.ReferenceFoxIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_finite_inputs [hPre_finite_inputs : Cert.Pre_finite_inputs.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_finite_inputs.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2)) (m ((c.tc : Thread Cert.KernelPrepIdeal.nD Cert.KernelPrepIdeal.τ).loc Cert.KernelPrepIdeal.main_arg3))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_finite_inputs [hPre_finite_inputs : Cert.Pre_finite_inputs.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_finite_inputs.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2)) (m ((c.tc : Thread Cert.ReferencePrepIdeal.nD Cert.ReferencePrepIdeal.τ).loc Cert.ReferencePrepIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelRw [hKernelRw : Cert.KernelRw.Facts] : Prop :=
  ∀ (m : (ℓ : Loc Cert.KernelRw.nD Cert.KernelRw.τ Cert.KernelRw.sig) → Buf (Elt Bits) ℓ) (g : Dev Cert.KernelRw.nD → PrngReg), Pre_KernelRw m →
    θ_run (Cert.KernelRw.defs (F := Bits)) (onTc (τ := Cert.KernelRw.τ) (Cert.KernelRw.main (F := Bits))) ⟨m, fun _ => 0, g⟩ (fun r => (∀ c : Dev Cert.KernelRw.nD,
      r.2.mem ((c.tc : Thread Cert.KernelRw.nD Cert.KernelRw.τ).loc Cert.KernelRw.main_arg0) = m ((c.tc : Thread Cert.KernelRw.nD Cert.KernelRw.τ).loc Cert.KernelRw.main_arg0)
      ∧ r.2.mem ((c.tc : Thread Cert.KernelRw.nD Cert.KernelRw.τ).loc Cert.KernelRw.main_arg1) = m ((c.tc : Thread Cert.KernelRw.nD Cert.KernelRw.τ).loc Cert.KernelRw.main_arg1))
      ∧ r.2.sem = fun _ => 0)

def quiescent_KernelRwIdeal [hKernelRwIdeal : Cert.KernelRwIdeal.Facts] : Prop :=
  ∀ (m : (ℓ : Loc Cert.KernelRwIdeal.nD Cert.KernelRwIdeal.τ Cert.KernelRwIdeal.sig) → Buf (Elt Ideal) ℓ) (g : Dev Cert.KernelRwIdeal.nD → PrngReg), Pre_KernelRwIdeal m →
    θ_run (Cert.KernelRwIdeal.defs (F := Ideal)) (onTc (τ := Cert.KernelRwIdeal.τ) (Cert.KernelRwIdeal.main (F := Ideal))) ⟨m, fun _ => 0, g⟩ (fun r => (∀ c : Dev Cert.KernelRwIdeal.nD,
      r.2.mem ((c.tc : Thread Cert.KernelRwIdeal.nD Cert.KernelRwIdeal.τ).loc Cert.KernelRwIdeal.main_arg0) = m ((c.tc : Thread Cert.KernelRwIdeal.nD Cert.KernelRwIdeal.τ).loc Cert.KernelRwIdeal.main_arg0)
      ∧ r.2.mem ((c.tc : Thread Cert.KernelRwIdeal.nD Cert.KernelRwIdeal.τ).loc Cert.KernelRwIdeal.main_arg1) = m ((c.tc : Thread Cert.KernelRwIdeal.nD Cert.KernelRwIdeal.τ).loc Cert.KernelRwIdeal.main_arg1))
      ∧ r.2.sem = fun _ => 0)

def quiescent_ReferenceRwIdeal [hReferenceRwIdeal : Cert.ReferenceRwIdeal.Facts] : Prop :=
  ∀ (m : (ℓ : Loc Cert.ReferenceRwIdeal.nD Cert.ReferenceRwIdeal.τ Cert.ReferenceRwIdeal.sig) → Buf (Elt Ideal) ℓ) (g : Dev Cert.ReferenceRwIdeal.nD → PrngReg), Pre_ReferenceRwIdeal m →
    θ_run (Cert.ReferenceRwIdeal.defs (F := Ideal)) (onTc (τ := Cert.ReferenceRwIdeal.τ) (Cert.ReferenceRwIdeal.main (F := Ideal))) ⟨m, fun _ => 0, g⟩ (fun r => (∀ c : Dev Cert.ReferenceRwIdeal.nD,
      r.2.mem ((c.tc : Thread Cert.ReferenceRwIdeal.nD Cert.ReferenceRwIdeal.τ).loc Cert.ReferenceRwIdeal.main_arg0) = m ((c.tc : Thread Cert.ReferenceRwIdeal.nD Cert.ReferenceRwIdeal.τ).loc Cert.ReferenceRwIdeal.main_arg0)
      ∧ r.2.mem ((c.tc : Thread Cert.ReferenceRwIdeal.nD Cert.ReferenceRwIdeal.τ).loc Cert.ReferenceRwIdeal.main_arg1) = m ((c.tc : Thread Cert.ReferenceRwIdeal.nD Cert.ReferenceRwIdeal.τ).loc Cert.ReferenceRwIdeal.main_arg1))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8)
      ∧ r.2.mem ((c.tc : Thread Cert.KernelPost.nD Cert.KernelPost.τ).loc Cert.KernelPost.main_arg9) = m ((c.tc : Thread Cert.KernelPost.nD Cert.KernelPost.τ).loc Cert.KernelPost.main_arg9)
      ∧ r.2.mem ((c.tc : Thread Cert.KernelPost.nD Cert.KernelPost.τ).loc Cert.KernelPost.main_arg10) = m ((c.tc : Thread Cert.KernelPost.nD Cert.KernelPost.τ).loc Cert.KernelPost.main_arg10))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3))
      ∧ r.2.sem = fun _ => 0)

def quiescent_KernelPrepIdeal_pre_finite_inputs [hKernelPrepIdeal : Cert.KernelPrepIdeal.Facts] [hPre_finite_inputs : Cert.Pre_finite_inputs.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_finite_inputs m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3))
      ∧ r.2.sem = fun _ => 0)

def quiescent_ReferencePrepIdeal_pre_finite_inputs [hReferencePrepIdeal : Cert.ReferencePrepIdeal.Facts] [hPre_finite_inputs : Cert.Pre_finite_inputs.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_finite_inputs m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelRw_KernelRwIdeal : Prop :=
  True

def algebraic_KernelRwIdeal_ReferenceRwIdeal [hKernelRwIdeal : Cert.KernelRwIdeal.Facts] [hReferenceRwIdeal : Cert.ReferenceRwIdeal.Facts] : Prop :=
  ∀ (m : (ℓ : Loc Cert.KernelRwIdeal.nD Cert.KernelRwIdeal.τ Cert.KernelRwIdeal.sig) → Buf (Elt Ideal) ℓ) (g : Dev Cert.KernelRwIdeal.nD → PrngReg)
    (m' : (ℓ : Loc Cert.ReferenceRwIdeal.nD Cert.ReferenceRwIdeal.τ Cert.ReferenceRwIdeal.sig) → Buf (Elt Ideal) ℓ) (g' : Dev Cert.ReferenceRwIdeal.nD → PrngReg), Pre_KernelRwIdeal m →
    (∀ c : Dev Cert.KernelRwIdeal.nD,
      m' ((c.tc : Thread Cert.ReferenceRwIdeal.nD Cert.ReferenceRwIdeal.τ).loc Cert.ReferenceRwIdeal.main_arg0) = m ((c.tc : Thread Cert.KernelRwIdeal.nD Cert.KernelRwIdeal.τ).loc Cert.KernelRwIdeal.main_arg0)
      ∧ m' ((c.tc : Thread Cert.ReferenceRwIdeal.nD Cert.ReferenceRwIdeal.τ).loc Cert.ReferenceRwIdeal.main_arg1) = m ((c.tc : Thread Cert.KernelRwIdeal.nD Cert.KernelRwIdeal.τ).loc Cert.KernelRwIdeal.main_arg1)) →
    ∃ (v0 : (c : Dev Cert.KernelRwIdeal.nD) → Buf (Elt Ideal) ((c.tc : Thread Cert.KernelRwIdeal.nD Cert.KernelRwIdeal.τ).loc Cert.KernelRwIdeal.main_v2)),
      θ_run (Cert.KernelRwIdeal.defs (F := Ideal)) (onTc (τ := Cert.KernelRwIdeal.τ) (Cert.KernelRwIdeal.main (F := Ideal))) ⟨m, fun _ => 0, g⟩ (fun r => ∀ c : Dev Cert.KernelRwIdeal.nD,
          r.2.mem ((c.tc : Thread Cert.KernelRwIdeal.nD Cert.KernelRwIdeal.τ).loc Cert.KernelRwIdeal.main_v2) = v0 c
          ∧ r.2.mem ((c.tc : Thread Cert.KernelRwIdeal.nD Cert.KernelRwIdeal.τ).loc Cert.KernelRwIdeal.main_arg0) = m ((c.tc : Thread Cert.KernelRwIdeal.nD Cert.KernelRwIdeal.τ).loc Cert.KernelRwIdeal.main_arg0)
          ∧ r.2.mem ((c.tc : Thread Cert.KernelRwIdeal.nD Cert.KernelRwIdeal.τ).loc Cert.KernelRwIdeal.main_arg1) = m ((c.tc : Thread Cert.KernelRwIdeal.nD Cert.KernelRwIdeal.τ).loc Cert.KernelRwIdeal.main_arg1))
      ∧ θ_run (Cert.ReferenceRwIdeal.defs (F := Ideal)) (onTc (τ := Cert.ReferenceRwIdeal.τ) (Cert.ReferenceRwIdeal.main (F := Ideal))) ⟨m', fun _ => 0, g'⟩ (fun r => ∀ c : Dev Cert.ReferenceRwIdeal.nD,
          r.2.mem ((c.tc : Thread Cert.ReferenceRwIdeal.nD Cert.ReferenceRwIdeal.τ).loc Cert.ReferenceRwIdeal.main_v3) = v0 c
          ∧ r.2.mem ((c.tc : Thread Cert.ReferenceRwIdeal.nD Cert.ReferenceRwIdeal.τ).loc Cert.ReferenceRwIdeal.main_arg0) = m' ((c.tc : Thread Cert.ReferenceRwIdeal.nD Cert.ReferenceRwIdeal.τ).loc Cert.ReferenceRwIdeal.main_arg0)
          ∧ r.2.mem ((c.tc : Thread Cert.ReferenceRwIdeal.nD Cert.ReferenceRwIdeal.τ).loc Cert.ReferenceRwIdeal.main_arg1) = m' ((c.tc : Thread Cert.ReferenceRwIdeal.nD Cert.ReferenceRwIdeal.τ).loc Cert.ReferenceRwIdeal.main_arg1))

def preserves_KernelFox_KernelFoxIdeal : Prop :=
  True

def algebraic_KernelFoxIdeal_ReferenceFoxIdeal [hKernelFoxIdeal : Cert.KernelFoxIdeal.Facts] [hReferenceFoxIdeal : Cert.ReferenceFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)) →
    ∃ (v0 : (c : Dev Cert.KernelFoxIdeal.nD) → Buf (Elt Ideal) ((c.tc : Thread Cert.KernelFoxIdeal.nD Cert.KernelFoxIdeal.τ).loc Cert.KernelFoxIdeal.main_v2)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v2) = v0 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v3) = v0 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v7)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v7) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v33) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)
      ∧ m' ((c.tc : Thread Cert.ReferencePostIdeal.nD Cert.ReferencePostIdeal.τ).loc Cert.ReferencePostIdeal.main_arg8) = m ((c.tc : Thread Cert.KernelPostIdeal.nD Cert.KernelPostIdeal.τ).loc Cert.KernelPostIdeal.main_arg8)
      ∧ m' ((c.tc : Thread Cert.ReferencePostIdeal.nD Cert.ReferencePostIdeal.τ).loc Cert.ReferencePostIdeal.main_arg9) = m ((c.tc : Thread Cert.KernelPostIdeal.nD Cert.KernelPostIdeal.τ).loc Cert.KernelPostIdeal.main_arg9)
      ∧ m' ((c.tc : Thread Cert.ReferencePostIdeal.nD Cert.ReferencePostIdeal.τ).loc Cert.ReferencePostIdeal.main_arg10) = m ((c.tc : Thread Cert.KernelPostIdeal.nD Cert.KernelPostIdeal.τ).loc Cert.KernelPostIdeal.main_arg10)) →
    ∃ (v0 : (c : Dev Cert.KernelPostIdeal.nD) → Buf (Elt Ideal) ((c.tc : Thread Cert.KernelPostIdeal.nD Cert.KernelPostIdeal.τ).loc Cert.KernelPostIdeal.main_v12)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v12) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
          ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
          ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
          ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v56) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7)
          ∧ r.2.mem ((c.tc : Thread Cert.ReferencePostIdeal.nD Cert.ReferencePostIdeal.τ).loc Cert.ReferencePostIdeal.main_arg8) = m' ((c.tc : Thread Cert.ReferencePostIdeal.nD Cert.ReferencePostIdeal.τ).loc Cert.ReferencePostIdeal.main_arg8)
          ∧ r.2.mem ((c.tc : Thread Cert.ReferencePostIdeal.nD Cert.ReferencePostIdeal.τ).loc Cert.ReferencePostIdeal.main_arg9) = m' ((c.tc : Thread Cert.ReferencePostIdeal.nD Cert.ReferencePostIdeal.τ).loc Cert.ReferencePostIdeal.main_arg9)
          ∧ r.2.mem ((c.tc : Thread Cert.ReferencePostIdeal.nD Cert.ReferencePostIdeal.τ).loc Cert.ReferencePostIdeal.main_arg10) = m' ((c.tc : Thread Cert.ReferencePostIdeal.nD Cert.ReferencePostIdeal.τ).loc Cert.ReferencePostIdeal.main_arg10))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v4)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v4) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v16) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelPrep_KernelPrepIdeal : Prop :=
  True

def algebraic_KernelPrepIdeal_ReferencePrepIdeal_pre_finite_inputs [hKernelPrepIdeal : Cert.KernelPrepIdeal.Facts] [hReferencePrepIdeal : Cert.ReferencePrepIdeal.Facts] [hPre_finite_inputs : Cert.Pre_finite_inputs.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_finite_inputs m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)) →
    ∃ (v0 : (c : Dev Cert.KernelPrepIdeal.nD) → Buf (Elt Ideal) ((c.tc : Thread Cert.KernelPrepIdeal.nD Cert.KernelPrepIdeal.τ).loc Cert.KernelPrepIdeal.main_v21_0)) (v1 : (c : Dev Cert.KernelPrepIdeal.nD) → Buf (Elt Ideal) ((c.tc : Thread Cert.KernelPrepIdeal.nD Cert.KernelPrepIdeal.τ).loc Cert.KernelPrepIdeal.main_v21_1)) (v2 : (c : Dev Cert.KernelPrepIdeal.nD) → Buf (Elt Ideal) ((c.tc : Thread Cert.KernelPrepIdeal.nD Cert.KernelPrepIdeal.τ).loc Cert.KernelPrepIdeal.main_v21_2)) (v3 : (c : Dev Cert.KernelPrepIdeal.nD) → Buf (Elt Ideal) ((c.tc : Thread Cert.KernelPrepIdeal.nD Cert.KernelPrepIdeal.τ).loc Cert.KernelPrepIdeal.main_v21_4)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v21_0) = v0 c
          ∧ r.2.mem ((c.tc : Thread Cert.KernelPrepIdeal.nD Cert.KernelPrepIdeal.τ).loc Cert.KernelPrepIdeal.main_v21_1) = v1 c
          ∧ r.2.mem ((c.tc : Thread Cert.KernelPrepIdeal.nD Cert.KernelPrepIdeal.τ).loc Cert.KernelPrepIdeal.main_v21_2) = v2 c
          ∧ r.2.mem ((c.tc : Thread Cert.KernelPrepIdeal.nD Cert.KernelPrepIdeal.τ).loc Cert.KernelPrepIdeal.main_v21_4) = v3 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v53) = v0 c
          ∧ r.2.mem ((c.tc : Thread Cert.ReferencePrepIdeal.nD Cert.ReferencePrepIdeal.τ).loc Cert.ReferencePrepIdeal.main_v54) = v1 c
          ∧ r.2.mem ((c.tc : Thread Cert.ReferencePrepIdeal.nD Cert.ReferencePrepIdeal.τ).loc Cert.ReferencePrepIdeal.main_v56) = v2 c
          ∧ r.2.mem ((c.tc : Thread Cert.ReferencePrepIdeal.nD Cert.ReferencePrepIdeal.τ).loc Cert.ReferencePrepIdeal.main_v57) = v3 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3))

def Claim : Prop :=
  ∃ (hKernel : Cert.Kernel.Facts) (hKernelIdeal : Cert.KernelIdeal.Facts) (hReferenceIdeal : Cert.ReferenceIdeal.Facts) (hKernelRw : Cert.KernelRw.Facts) (hKernelRwIdeal : Cert.KernelRwIdeal.Facts) (hReferenceRwIdeal : Cert.ReferenceRwIdeal.Facts) (hKernelFox : Cert.KernelFox.Facts) (hKernelFoxIdeal : Cert.KernelFoxIdeal.Facts) (hReferenceFoxIdeal : Cert.ReferenceFoxIdeal.Facts) (hKernelMlp : Cert.KernelMlp.Facts) (hKernelMlpIdeal : Cert.KernelMlpIdeal.Facts) (hReferenceMlpIdeal : Cert.ReferenceMlpIdeal.Facts) (hKernelPost : Cert.KernelPost.Facts) (hKernelPostIdeal : Cert.KernelPostIdeal.Facts) (hReferencePostIdeal : Cert.ReferencePostIdeal.Facts) (hKernelNorm : Cert.KernelNorm.Facts) (hKernelNormIdeal : Cert.KernelNormIdeal.Facts) (hReferenceNormIdeal : Cert.ReferenceNormIdeal.Facts) (hKernelMem : Cert.KernelMem.Facts) (hKernelMemIdeal : Cert.KernelMemIdeal.Facts) (hReferenceMemIdeal : Cert.ReferenceMemIdeal.Facts) (hKernelPrep : Cert.KernelPrep.Facts) (hKernelPrepIdeal : Cert.KernelPrepIdeal.Facts) (hReferencePrepIdeal : Cert.ReferencePrepIdeal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_KernelRw (hKernelRw := hKernelRw)
    ∧ quiescent_KernelRwIdeal (hKernelRwIdeal := hKernelRwIdeal)
    ∧ quiescent_ReferenceRwIdeal (hReferenceRwIdeal := hReferenceRwIdeal)
    ∧ quiescent_KernelFox (hKernelFox := hKernelFox)
    ∧ quiescent_KernelFoxIdeal (hKernelFoxIdeal := hKernelFoxIdeal)
    ∧ quiescent_ReferenceFoxIdeal (hReferenceFoxIdeal := hReferenceFoxIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelPrep (hKernelPrep := hKernelPrep)
    ∧ quiescent_KernelPrepIdeal (hKernelPrepIdeal := hKernelPrepIdeal)
    ∧ quiescent_KernelPrepIdeal_pre_finite_inputs (hKernelPrepIdeal := hKernelPrepIdeal) (hPre_finite_inputs := hPre_finite_inputs)
    ∧ quiescent_ReferencePrepIdeal (hReferencePrepIdeal := hReferencePrepIdeal)
    ∧ quiescent_ReferencePrepIdeal_pre_finite_inputs (hReferencePrepIdeal := hReferencePrepIdeal) (hPre_finite_inputs := hPre_finite_inputs)
    ∧ preserves_Kernel_KernelIdeal
    ∧ algebraic_KernelIdeal_ReferenceIdeal (hKernelIdeal := hKernelIdeal) (hReferenceIdeal := hReferenceIdeal)
    ∧ preserves_KernelRw_KernelRwIdeal
    ∧ algebraic_KernelRwIdeal_ReferenceRwIdeal (hKernelRwIdeal := hKernelRwIdeal) (hReferenceRwIdeal := hReferenceRwIdeal)
    ∧ preserves_KernelFox_KernelFoxIdeal
    ∧ algebraic_KernelFoxIdeal_ReferenceFoxIdeal (hKernelFoxIdeal := hKernelFoxIdeal) (hReferenceFoxIdeal := hReferenceFoxIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelPost_KernelPostIdeal
    ∧ algebraic_KernelPostIdeal_ReferencePostIdeal (hKernelPostIdeal := hKernelPostIdeal) (hReferencePostIdeal := hReferencePostIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMem_KernelMemIdeal
    ∧ algebraic_KernelMemIdeal_ReferenceMemIdeal (hKernelMemIdeal := hKernelMemIdeal) (hReferenceMemIdeal := hReferenceMemIdeal)
    ∧ preserves_KernelPrep_KernelPrepIdeal
    ∧ algebraic_KernelPrepIdeal_ReferencePrepIdeal_pre_finite_inputs (hKernelPrepIdeal := hKernelPrepIdeal) (hReferencePrepIdeal := hReferencePrepIdeal) (hPre_finite_inputs := hPre_finite_inputs)
-- ==== Pre_finite_inputs.lean ====
abbrev S8192x3584 : Shape := ⟨2, ![8192, 3584]⟩
abbrev S1x16 : Shape := ⟨2, ![1, 16]⟩
abbrev S1x64 : Shape := ⟨2, ![1, 64]⟩
abbrev S_ : Shape := ⟨0, ![]⟩

class Facts : Prop where
  bcast_S_S8192x3584 : S_.BroadcastsInDim S8192x3584 (![] : Fin 0 → Fin S8192x3584.rank)
  reducesTo_S8192x3584_S_d0_1 : S8192x3584.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x3584 .f32) (main_arg1 : FVec F S1x16 .f32) (main_arg2 : FVec F S1x64 .f32) (main_arg3 : FVec F S1x64 .f32) : IVec S_ 1 :=
  let main_v0 : FVec F S8192x3584 .f32 := Host.absf main_arg0
  let main_cst : FVec F S_ .f32 := constant S_ .f32 0x7F800000#32
  let main_v1 : FVec F S8192x3584 .f32 := broadcastInDim S8192x3584 ![] bcast_S_S8192x3584 main_cst
  let main_v2 : IVec S8192x3584 1 := cmpf .olt main_v0 main_v1
  let main_c : IVec S_ 1 := constantI S_ 1 1#1
  let main_v3 : IVec S_ 1 := (fun x v => Host.reduce IntOp.andi x v reducesTo_S8192x3584_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  main_v8
-- ==== Kernel.lean ====
abbrev S8192x2048 : Shape := ⟨2, ![8192, 2048]⟩
abbrev S1x2048x10544 : Shape := ⟨3, ![1, 2048, 10544]⟩
abbrev S2048x10544 : Shape := ⟨2, ![2048, 10544]⟩
abbrev S10544x2048 : Shape := ⟨2, ![10544, 2048]⟩
abbrev S8192x4096 : Shape := ⟨2, ![8192, 4096]⟩
abbrev S1024x2048 : Shape := ⟨2, ![1024, 2048]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S2048x10544, .f32⟩
  | .hbm, ⟨3, _⟩ => ⟨S10544x2048, .f32⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c6448_i32 : BitVec 32 := 6448#32
  let arg0 : BitVec 32 := BitVec.ofNat 32 (i 0).val
  let c2048_i32 : BitVec 32 := 2048#32
  let v0 : BitVec 32 := Scalar.muli arg0 c2048_i32
  let v1 : BitVec 32 := Scalar.addi c6448_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c6448_i32 : BitVec 32 := 6448#32
  let v1 : BitVec 32 := Scalar.addi c6448_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S1x2048x10544 : Shape := ⟨3, ![1, 2048, 10544]⟩
abbrev S2048x10544 : Shape := ⟨2, ![2048, 10544]⟩
abbrev S8192x10544 : Shape := ⟨2, ![8192, 10544]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S8192x2048, .f32⟩
  | .hbm, ⟨3, _⟩ => ⟨S2048x10544, .f32⟩
  | .hbm, ⟨4, _⟩ => ⟨S8192x10544, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelRw.lean ====
abbrev S8192x2048 : Shape := ⟨2, ![8192, 2048]⟩
abbrev S1x2048x10544 : Shape := ⟨3, ![1, 2048, 10544]⟩
abbrev S2048x10544 : Shape := ⟨2, ![2048, 10544]⟩
abbrev S10544x2048 : Shape := ⟨2, ![10544, 2048]⟩
abbrev S8192x3584 : Shape := ⟨2, ![8192, 3584]⟩
abbrev S1024x2048 : Shape := ⟨2, ![1024, 2048]⟩
abbrev S1792x2048 : Shape := ⟨2, ![1792, 2048]⟩
abbrev S1024x1792 : Shape := ⟨2, ![1024, 1792]⟩
abbrev S2048x1792 : Shape := ⟨2, ![2048, 1792]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S2048x10544, .f32⟩
  | .hbm, ⟨3, _⟩ => ⟨S10544x2048, .f32⟩
  | .hbm, ⟨4, _⟩ => ⟨S8192x3584, .f32⟩
  | .local _ .vmem, ⟨0, _⟩ => ⟨S1024x2048, .bf16⟩
  | .local _ .vmem, ⟨1, _⟩ => ⟨S1024x2048, .bf16⟩
  | .local _ .vmem, ⟨2, _⟩ => ⟨S1792x2048, .f32⟩
  | .local _ .vmem, ⟨3, _⟩ => ⟨S1024x1792, .f32⟩
  | .local _ .vmem, ⟨4, _⟩ => ⟨S1024x1792, .f32⟩
  | .local _ .vmem, ⟨5, _⟩ => ⟨S2048x1792, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c0_i32 : BitVec 32 := 0#32
  let arg0 : BitVec 32 := BitVec.ofNat 32 (i 0).val
  let c1792_i32 : BitVec 32 := 1792#32
  let v0 : BitVec 32 := Scalar.muli arg0 c1792_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1792_i32 : BitVec 32 := 1792#32
  let v0 : BitVec 32 := Scalar.muli arg0 c1792_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1792x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRwIdeal.lean ====
abbrev S8192x2048 : Shape := ⟨2, ![8192, 2048]⟩
abbrev S1x2048x10544 : Shape := ⟨3, ![1, 2048, 10544]⟩
abbrev S2048x10544 : Shape := ⟨2, ![2048, 10544]⟩
abbrev S8192x10544 : Shape := ⟨2, ![8192, 10544]⟩
abbrev S8192x3584 : Shape := ⟨2, ![8192, 3584]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S8192x2048, .f32⟩
  | .hbm, ⟨3, _⟩ => ⟨S2048x10544, .f32⟩
  | .hbm, ⟨4, _⟩ => ⟨S8192x10544, .f32⟩
  | .hbm, ⟨5, _⟩ => ⟨S8192x3584, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelFox.lean ====
abbrev S8192x2048 : Shape := ⟨2, ![8192, 2048]⟩
abbrev S1x2048x10544 : Shape := ⟨3, ![1, 2048, 10544]⟩
abbrev S2048x10544 : Shape := ⟨2, ![2048, 10544]⟩
abbrev S10544x2048 : Shape := ⟨2, ![10544, 2048]⟩
abbrev S8192x3584 : Shape := ⟨2, ![8192, 3584]⟩
abbrev S1024x2048 : Shape := ⟨2, ![1024, 2048]⟩
abbrev S1792x2048 : Shape := ⟨2, ![1792, 2048]⟩
abbrev S1024x1792 : Shape := ⟨2, ![1024, 1792]⟩
abbrev S2048x1792 : Shape := ⟨2, ![2048, 1792]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S2048x10544, .f32⟩
  | .hbm, ⟨3, _⟩ => ⟨S10544x2048, .f32⟩
  | .hbm, ⟨4, _⟩ => ⟨S8192x3584, .f32⟩
  | .local _ .vmem, ⟨0, _⟩ => ⟨S1024x2048, .bf16⟩
  | .local _ .vmem, ⟨1, _⟩ => ⟨S1024x2048, .bf16⟩
  | .local _ .vmem, ⟨2, _⟩ => ⟨S1792x2048, .f32⟩
  | .local _ .vmem, ⟨3, _⟩ => ⟨S1024x1792, .f32⟩
  | .local _ .vmem, ⟨4, _⟩ => ⟨S1024x1792, .f32⟩
  | .local _ .vmem, ⟨5, _⟩ => ⟨S2048x1792, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c3360_i32 : BitVec 32 := 3360#32
  let arg0 : BitVec 32 := BitVec.ofNat 32 (i 0).val
  let c1792_i32 : BitVec 32 := 1792#32
  let v0 : BitVec 32 := Scalar.muli arg0 c1792_i32
  let v1 : BitVec 32 := Scalar.addi c3360_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1792_i32 : BitVec 32 := 1792#32
  let v0 : BitVec 32 := Scalar.muli arg0 c1792_i32
  let c3360_i32 : BitVec 32 := 3360#32
  let v1 : BitVec 32 := Scalar.addi c3360_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1792x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFoxIdeal.lean ====
abbrev S8192x2048 : Shape := ⟨2, ![8192, 2048]⟩
abbrev S1x2048x10544 : Shape := ⟨3, ![1, 2048, 10544]⟩
abbrev S2048x10544 : Shape := ⟨2, ![2048, 10544]⟩
abbrev S8192x10544 : Shape := ⟨2, ![8192, 10544]⟩
abbrev S8192x3584 : Shape := ⟨2, ![8192, 3584]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10544, .f32⟩
  | .hbm, ⟨2, _⟩ => ⟨S8192x2048, .f32⟩
  | .hbm, ⟨3, _⟩ => ⟨S2048x10544, .f32⟩
  | .hbm, ⟨4, _⟩ => ⟨S8192x10544, .f32⟩
  | .hbm, ⟨5, _⟩ => ⟨S8192x3584, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMlp.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceMlpIdeal.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== KernelPost.lean ====
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S256x1024 : Shape := ⟨2, ![256, 1024]⟩
abbrev S1x512x2048 : Shape := ⟨3, ![1, 512, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x512, .f32⟩
  | .hbm, ⟨9, _⟩ => ⟨S256x1024, .bf16⟩
  | .hbm, ⟨10, _⟩ => ⟨S1x512x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S2048x512, .f32⟩
  | .hbm, ⟨19, _⟩ => ⟨S2048x512, .bf16⟩
  | .hbm, ⟨20, _⟩ => ⟨S512x2048, .f32⟩
  | .hbm, ⟨21, _⟩ => ⟨S512x2048, .bf16⟩
  | .hbm, ⟨22, _⟩ => ⟨S1x2048, .f32⟩
  | .hbm, ⟨23, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x512, .bf16⟩
  | .local _ .vmem, ⟨13, _⟩ => ⟨S256x1024, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferencePostIdeal.lean ====
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x512 : Shape := ⟨3, ![1, 2048, 512]⟩
abbrev S256x1024 : Shape := ⟨2, ![256, 1024]⟩
abbrev S1x512x2048 : Shape := ⟨3, ![1, 512, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x512 : Shape := ⟨2, ![2048, 512]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S512x2048 : Shape := ⟨2, ![512, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x512, .f32⟩
  | .hbm, ⟨9, _⟩ => ⟨S256x1024, .bf16⟩
  | .hbm, ⟨10, _⟩ => ⟨S1x512x2048, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S1024x2048, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S1024x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S2048x2048, .f32⟩
  | .hbm, ⟨24, _⟩ => ⟨S8192x2048, .f32⟩
  | .hbm, ⟨25, _⟩ => ⟨S8192x2048, .f32⟩
  | .hbm, ⟨26, _⟩ => ⟨S2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S2048x512, .f32⟩
  | .hbm, ⟨44, _⟩ => ⟨S8192x512, .f32⟩
  | .hbm, ⟨45, _⟩ => ⟨S8192x4x128, .f32⟩
  | .hbm, ⟨46, _⟩ => ⟨S256x1024, .f32⟩
  | .hbm, ⟨47, _⟩ => ⟨S256x512, .f32⟩
  | .hbm, ⟨48, _⟩ => ⟨S256x512, .f32⟩
  | .hbm, ⟨49, _⟩ => ⟨S256x4x128, .f32⟩
  | .hbm, ⟨50, _⟩ => ⟨S256x4x128, .f32⟩
  | .hbm, ⟨51, _⟩ => ⟨S4x8192x256, .f32⟩
  | .hbm, ⟨52, _⟩ => ⟨S_, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S4x8192, .f32⟩
  | .hbm, ⟨60, _⟩ => ⟨S4x8192x1, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S4x128x8192, .f32⟩
  | .hbm, ⟨70, _⟩ => ⟨S8192x4x128, .f32⟩
  | .hbm, ⟨71, _⟩ => ⟨S8192x512, .f32⟩
  | .hbm, ⟨72, _⟩ => ⟨S512x2048, .f32⟩
  | .hbm, ⟨73, _⟩ => ⟨S8192x2048, .f32⟩
  | .hbm, ⟨74, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== KernelNorm.lean ====
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelMem.lean ====
abbrev S256x2048 : Shape := ⟨2, ![256, 2048]⟩
abbrev S1x2048 : Shape := ⟨2, ![1, 2048]⟩
abbrev S1x2048x1024 : Shape := ⟨3, ![1, 2048, 1024]⟩
abbrev S2048 : Shape := ⟨1, ![2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S2048x1024, .f32⟩
  | .hbm, ⟨5, _⟩ => ⟨S2048x1024, .bf16⟩
  | .hbm, ⟨6, _⟩ => ⟨S1x2048, .f32⟩
  | .hbm, ⟨7, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceMemIdeal.lean ====
abbrev S256x2048 : Shape := ⟨2, ![256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S2048x1024, .f32⟩
  | .hbm, ⟨21, _⟩ => ⟨S256x1024, .f32⟩
  | .hbm, ⟨22, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelPrep.lean ====
abbrev S8192x3584 : Shape := ⟨2, ![8192, 3584]⟩
abbrev S1x16 : Shape := ⟨2, ![1, 16]⟩
abbrev S1x64 : Shape := ⟨2, ![1, 64]⟩
abbrev S1024x128 : Shape := ⟨2, ![1024, 128]⟩
abbrev S128x128 : Shape := ⟨2, ![128, 128]⟩
abbrev S16 : Shape := ⟨1, ![16]⟩
abbrev S16x3 : Shape := ⟨2, ![16, 3]⟩
abbrev S48 : Shape := ⟨1, ![48]⟩
abbrev S1x48 : Shape := ⟨2, ![1, 48]⟩
abbrev S2x48 : Shape := ⟨2, ![2, 48]⟩
abbrev S96 : Shape := ⟨1, ![96]⟩
abbrev S_ : Shape := ⟨0, ![]⟩
abbrev S128 : Shape := ⟨1, ![128]⟩
abbrev S1x128 : Shape := ⟨2, ![1, 128]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S8192x1024 : Shape := ⟨2, ![8192, 1024]⟩
abbrev S1024x8192 : Shape := ⟨2, ![1024, 8192]⟩
abbrev S8192x128 : Shape := ⟨2, ![8192, 128]⟩
abbrev S8x128 : Shape := ⟨2, ![8, 128]⟩
abbrev S512x3584 : Shape := ⟨2, ![512, 3584]⟩
abbrev S512x1024 : Shape := ⟨2, ![512, 1024]⟩
abbrev S1024x512 : Shape := ⟨2, ![1024, 512]⟩
abbrev S512x128 : Shape := ⟨2, ![512, 128]⟩
abbrev S4096x128 : Shape := ⟨2, ![4096, 128]⟩
abbrev S512x512 : Shape := ⟨2, ![512, 512]⟩

abbrev nBuf : Space → Nat
  | .hbm => 56
  | .vmem => 22
  | .smem => 0
  | _ => 0

abbrev bufTy : (tb : Table) → Fin (tcTables nBuf tb) → BufTy
  | .hbm, ⟨0, _⟩ => ⟨S8192x3584, .f32⟩
  | .hbm, ⟨1, _⟩ => ⟨S1x16, .f32⟩
  | .hbm, ⟨2, _⟩ => ⟨S1x64, .f32⟩
  | .hbm, ⟨3, _⟩ => ⟨S1x64, .f32⟩
  | .hbm, ⟨4, _⟩ => ⟨S1024x128, .bf16⟩
  | .hbm, ⟨5, _⟩ => ⟨S128x128, .bf16⟩
  | .hbm, ⟨6, _⟩ => ⟨S16, .f32⟩
  | .hbm, ⟨7, _⟩ => ⟨S16x3, .f32⟩
  | .hbm, ⟨8, _⟩ => ⟨S48, .f32⟩
  | .hbm, ⟨9, _⟩ => ⟨S1x48, .f32⟩
  | .hbm, ⟨10, _⟩ => ⟨S2x48, .f32⟩
  | .hbm, ⟨11, _⟩ => ⟨S96, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S1x64, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S128, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S_, .i1⟩
  | .hbm, ⟨43, _⟩ => ⟨S128, .i1⟩
  | .hbm, ⟨44, _⟩ => ⟨S128, .i1⟩
  | .hbm, ⟨45, _⟩ => ⟨S128, .i1⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S1x128, .i32⟩
  | .hbm, ⟨50, _⟩ => ⟨S8192x1024, .bf16⟩
  | .hbm, ⟨51, _⟩ => ⟨S8192x1024, .bf16⟩
  | .hbm, ⟨52, _⟩ => ⟨S1024x8192, .bf16⟩
  | .hbm, ⟨53, _⟩ => ⟨S8192x128, .bf16⟩
  | .hbm, ⟨54, _⟩ => ⟨S8192x128, .bf16⟩
  | .hbm, ⟨55, _⟩ => ⟨S8x128, .f32⟩
  | .local _ .vmem, ⟨0, _⟩ => ⟨S512x3584, .f32⟩
  | .local _ .vmem, ⟨1, _⟩ => ⟨S512x3584, .f32⟩
  | .local _ .vmem, ⟨2, _⟩ => ⟨S1x1024, .f32⟩
  | .local _ .vmem, ⟨3, _⟩ => ⟨S1x1024, .f32⟩
  | .local _ .vmem, ⟨4, _⟩ => ⟨S1x128, .f32⟩
  | .local _ .vmem, ⟨5, _⟩ => ⟨S1x128, .i32⟩
  | .local _ .vmem, ⟨6, _⟩ => ⟨S1024x128, .bf16⟩
  | .local _ .vmem, ⟨7, _⟩ => ⟨S128x128, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S8x128, .f32⟩
  | .local _ .vmem, ⟨19, _⟩ => ⟨S1x128, .f32⟩
  | .local _ .vmem, ⟨20, _⟩ => ⟨S1x1024, .f32⟩
  | .local _ .vmem, ⟨21, _⟩ => ⟨S1x128, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v19 : Ref sig .tc := ⟨.hbm, 48, rfl⟩
abbrev main_v20 : Ref sig .tc := ⟨.hbm, 49, rfl⟩
abbrev main_v21_0 : Ref sig .tc := ⟨.hbm, 50, rfl⟩
abbrev main_v21_1 : Ref sig .tc := ⟨.hbm, 51, rfl⟩
abbrev main_v21_2 : Ref sig .tc := ⟨.hbm, 52, rfl⟩
abbrev main_v21_3 : Ref sig .tc := ⟨.hbm, 53, rfl⟩
abbrev main_v21_4 : Ref sig .tc := ⟨.hbm, 54, rfl⟩
abbrev main_v21_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferencePrepIdeal.lean ====
abbrev S8192x3584 : Shape := ⟨2, ![8192, 3584]⟩
abbrev S1x16 : Shape := ⟨2, ![1, 16]⟩
abbrev S1x64 : Shape := ⟨2, ![1, 64]⟩
abbrev S8192x1024 : Shape := ⟨2, ![8192, 1024]⟩
abbrev S8192x16 : Shape := ⟨2, ![8192, 16]⟩
abbrev S8192x496 : Shape := ⟨2, ![8192, 496]⟩
abbrev S8192x16x64 : Shape := ⟨3, ![8192, 16, 64]⟩
abbrev S64 : Shape := ⟨1, ![64]⟩
abbrev S_ : Shape := ⟨0, ![]⟩
abbrev S8192x16x1 : Shape := ⟨3, ![8192, 16, 1]⟩
abbrev S1x1x64 : Shape := ⟨3, ![1, 1, 64]⟩
abbrev S16 : Shape := ⟨1, ![16]⟩
abbrev S8192x16x3 : Shape := ⟨3, ![8192, 16, 3]⟩
abbrev S8192x48 : Shape := ⟨2, ![8192, 48]⟩
abbrev S8192x32 : Shape := ⟨2, ![8192, 32]⟩
abbrev S8192x128 : Shape := ⟨2, ![8192, 128]⟩
abbrev S1024x8192 : Shape := ⟨2, ![1024, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1x16, .f32⟩
  | .hbm, ⟨2, _⟩ => ⟨S1x64, .f32⟩
  | .hbm, ⟨3, _⟩ => ⟨S1x64, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x16, .f32⟩
  | .hbm, ⟨8, _⟩ => ⟨S8192x496, .f32⟩
  | .hbm, ⟨9, _⟩ => ⟨S8192x16x64, .f32⟩
  | .hbm, ⟨10, _⟩ => ⟨S64, .f32⟩
  | .hbm, ⟨11, _⟩ => ⟨S8192x16x64, .f32⟩
  | .hbm, ⟨12, _⟩ => ⟨S_, .f32⟩
  | .hbm, ⟨13, _⟩ => ⟨S8192x16, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S_, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S8192x16x64, .f32⟩
  | .hbm, ⟨23, _⟩ => ⟨S8192x16x64, .f32⟩
  | .hbm, ⟨24, _⟩ => ⟨S1x1x64, .f32⟩
  | .hbm, ⟨25, _⟩ => ⟨S8192x16x64, .f32⟩
  | .hbm, ⟨26, _⟩ => ⟨S8192x16x64, .f32⟩
  | .hbm, ⟨27, _⟩ => ⟨S8192x1024, .f32⟩
  | .hbm, ⟨28, _⟩ => ⟨S8192x16x64, .f32⟩
  | .hbm, ⟨29, _⟩ => ⟨S64, .f32⟩
  | .hbm, ⟨30, _⟩ => ⟨S8192x16x64, .f32⟩
  | .hbm, ⟨31, _⟩ => ⟨S_, .f32⟩
  | .hbm, ⟨32, _⟩ => ⟨S8192x16, .f32⟩
  | .hbm, ⟨33, _⟩ => ⟨S8192x16x1, .f32⟩
  | .hbm, ⟨34, _⟩ => ⟨S_, .f32⟩
  | .hbm, ⟨35, _⟩ => ⟨S8192x16x1, .f32⟩
  | .hbm, ⟨36, _⟩ => ⟨S8192x16x1, .f32⟩
  | .hbm, ⟨37, _⟩ => ⟨S_, .f32⟩
  | .hbm, ⟨38, _⟩ => ⟨S8192x16x1, .f32⟩
  | .hbm, ⟨39, _⟩ => ⟨S8192x16x1, .f32⟩
  | .hbm, ⟨40, _⟩ => ⟨S8192x16x1, .f32⟩
  | .hbm, ⟨41, _⟩ => ⟨S8192x16x64, .f32⟩
  | .hbm, ⟨42, _⟩ => ⟨S8192x16x64, .f32⟩
  | .hbm, ⟨43, _⟩ => ⟨S1x1x64, .f32⟩
  | .hbm, ⟨44, _⟩ => ⟨S8192x16x64, .f32⟩
  | .hbm, ⟨45, _⟩ => ⟨S8192x16x64, .f32⟩
  | .hbm, ⟨46, _⟩ => ⟨S8192x1024, .f32⟩
  | .hbm, ⟨47, _⟩ => ⟨S16, .f32⟩
  | .hbm, ⟨48, _⟩ => ⟨S1x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S_, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .i1⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S_, .f32⟩
  | .hbm, ⟨69, _⟩ => ⟨S8192x16, .f32⟩
  | .hbm, ⟨70, _⟩ => ⟨S_, .f32⟩
  | .hbm, ⟨71, _⟩ => ⟨S8192x16, .f32⟩
  | .hbm, ⟨72, _⟩ => ⟨S8192x16, .f32⟩
  | .hbm, ⟨73, _⟩ => ⟨S8192x16x1, .f32⟩
  | .hbm, ⟨74, _⟩ => ⟨S_, .i32⟩
  | .hbm, ⟨75, _⟩ => ⟨S_, .f32⟩
  | .hbm, ⟨76, _⟩ => ⟨S8192x16x3, .f32⟩
  | .hbm, ⟨77, _⟩ => ⟨S8192x48, .f32⟩
  | .hbm, ⟨78, _⟩ => ⟨S_, .f32⟩
  | .hbm, ⟨79, _⟩ => ⟨S8192x48, .f32⟩
  | .hbm, ⟨80, _⟩ => ⟨S_, .f32⟩
  | .hbm, ⟨81, _⟩ => ⟨S8192x32, .f32⟩
  | .hbm, ⟨82, _⟩ => ⟨S8192x128, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8192x1024, .bf16⟩
  | .hbm, ⟨88, _⟩ => ⟨S1024x8192, .f32⟩
  | .hbm, ⟨89, _⟩ => ⟨S1024x8192, .bf16⟩
  | .hbm, ⟨90, _⟩ => ⟨S8192x128, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v41 : Ref sig .tc := ⟨.hbm, 66, rfl⟩
abbrev main_call1_call0_cst : Ref sig .tc := ⟨.hbm, 67, rfl⟩
abbrev main_call1_call0_v0 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.Common.lean ====
/-
  What the proofs of the calls share: the products of rows with the weights' columns, the gate, and the fact that a
  scratch which the first point of every run of eight points fills holds the same at the run's other points.
-/
module

public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.Tactic.CleanTypes
public import Idealize.ShloMosaic.Lib.Pointwise

@[expose] public section

set_option maxRecDepth 16384

noncomputable section

open Idealize.ShloMosaic

namespace Cert.Layer

/-- Matrices of extended reals with `a` rows and `b` columns. -/
abbrev Mat (a b : ℕ) : Type := (⟨2, ![a, b]⟩ : Shape).Idx → EReal
/-- Stacks of `a` such matrices. -/
abbrev Stack (a b c : ℕ) : Type := (⟨3, ![a, b, c]⟩ : Shape).Idx → EReal

/-- The logistic function. -/
def gate (z : EReal) : EReal := Ideal.div 1 (1 + Ideal.exp (-z))

/-- The square of the positive part. -/
def sqrelu (z : EReal) : EReal := max z 0 * max z 0

/-- Entry `k` of row `r` of `X` over the root mean square of that row (2048 entries, the mean raised by the constant
    1e-5 as f32 rounds it), times the gain of `k`. -/
def rms {a : ℕ} (X : Mat a 2048) (g : Fin 2048 → EReal) (r : Fin a) (k : Fin 2048) : EReal :=
  X (ix2 r k) * Ideal.rsqrt (Ideal.div (∑ x : Fin 2048, X (ix2 r x) * X (ix2 r x)) (Ideal.ofBits FTy.f32 1157627904#32)
    + Ideal.ofBits FTy.f32 925353388#32) * g k

/-- The one matrix of a stack of one. -/
def slab {b c : ℕ} (W : Stack 1 b c) : Mat b c := fun i => W (ix3 0 (i 0) (i 1))

/-- The weights that the scores `s` give: their exponentials, the largest score subtracted, over the sum of these. -/
def soft {n : ℕ} (s : Fin n → EReal) (j : Fin n) : EReal :=
  Ideal.div (Ideal.exp (s j - Finset.fold max (Ideal.ofBits FTy.f32 4286578688#32) s Finset.univ))
    (∑ x : Fin n, Ideal.exp (s x - Finset.fold max (Ideal.ofBits FTy.f32 4286578688#32) s Finset.univ))

/-- Two rows with the same entries have the same entries over their root mean squares. -/
theorem rms_congr {a b : ℕ} {X : Mat a 2048} {Y : Mat b 2048} {g g' : Fin 2048 → EReal} {r : Fin a} {s : Fin b}
    (h : ∀ k, X (ix2 r k) = Y (ix2 s k)) (hg : ∀ k, g k = g' k) (k : Fin 2048) : rms X g r k = rms Y g' s k := by
  unfold rms
  simp only [h, hg]

/-- The product of a row of `X` with column `col` of the (one-matrix) stack of weights `W`. -/
def proj (X : Mat 8192 2048) (W : Stack 1 2048 10544) (r : Fin 8192) (col : Fin 10544) : EReal :=
  ∑ k : Fin 2048, X (ix2 r k) * W (ix3 0 k col)

/-- The first point of the run of eight points that `t` is in. -/
abbrev first {N : ℕ} (t : Fin N) : Fin N := ⟨8 * (t.val / 8), Pipeline.run_start_lt t⟩

/-- A pipeline that at the first point of every run of eight stores a window `W` of weights transposed in a scratch, and
    at every point leaves `g` of its rows' products with what the scratch holds, leaves at every point `t` `g` of the
    rows' products with the window of the first point of the run of `t`. -/
theorem held_product {N bn : ℕ} (g : EReal → EReal) (X : Fin N → Mat 1024 2048) (W : Fin N → Mat bn 2048)
    (f : (n : ℕ) → n < N → Mat 1024 bn × Mat 2048 bn)
    (hA : ∀ t : Fin N, t.val % 8 = 0 → f t.val t.isLt
      = (fun y => g (∑ k : Fin 2048, X t (ix2 (y 0) k) * W t (ix2 (y 1) k)), fun y => W t (ix2 (y 1) (y 0))))
    (hB : ∀ t : Fin N, ¬t.val % 8 = 0 → f t.val t.isLt
      = (fun y => g (∑ k : Fin 2048, X t (ix2 (y 0) k) * (f (t.val - 1) (Nat.lt_of_le_of_lt (Nat.sub_le _ _) t.isLt)).2 (ix2 k (y 1))),
          (f (t.val - 1) (Nat.lt_of_le_of_lt (Nat.sub_le _ _) t.isLt)).2))
    (t : Fin N) :
    (f t.val t.isLt).1 = fun y => g (∑ k : Fin 2048, X t (ix2 (y 0) k) * W (first t) (ix2 (y 1) k)) := by
  have hs : ∀ t : Fin N, (f t.val t.isLt).2 = fun y => W (first t) (ix2 (y 1) (y 0)) := fun t =>
    Pipeline.eq_of_write_hold (fun n h => (f n h).2) 8 (fun t y => W t (ix2 (y 1) (y 0)))
      (fun t h => by rw [hA t h]) (fun t h => by rw [hB t h]) t
  by_cases h : t.val % 8 = 0
  · have ht : first t = t := Fin.ext (by dsimp only; omega)
    rw [ht, hA t h]
  · have hlt : t.val - 1 < N := Nat.lt_of_le_of_lt (Nat.sub_le _ _) t.isLt
    have e : first ⟨t.val - 1, hlt⟩ = first t := Fin.ext (by dsimp only; omega)
    rw [hB t h]
    have hp := hs ⟨t.val - 1, hlt⟩
    rw [e] at hp
    dsimp only at hp ⊢
    rw [hp]
    rfl

/-- A maximum over the last of three axes, at an index. -/
theorem max_last {a b c : ℕ} {u : Shape} (x : FVec Ideal ⟨3, ![a, b, c]⟩ .f32) (init : FVec Ideal u .f32)
    (h : (⟨3, ![a, b, c]⟩ : Shape).ReducesTo [2] ⟨2, ![a, b]⟩) (hu : 0 < u.numel) (i : (⟨2, ![a, b]⟩ : Shape).Idx) :
    Host.reduce FloatOps.maximumf x init h hu i
      = Finset.fold max (init (Shape.Idx.first hu)) (fun j => x (ix3 (i 0) (i 1) j)) Finset.univ := by
  simp only [pointwise]

/-- The word of −∞ is the least extended real, so a maximum with it changes nothing. -/
theorem max_bot (z : EReal) : max (Ideal.ofBits FTy.f32 4286578688#32) z = z := by
  have h : Ideal.ofBits FTy.f32 4286578688#32 = ⊥ := by simp [Ideal.ofBits, Ideal.ieee]
  rw [h]
  exact max_eq_right bot_le

end Cert.Layer

end
-- ==== Proof.Gates.lean ====
/-
  The projection that makes the gates, over an element-indexed window of the transposed weights: its value at every
  index, and the claim that it is the reference's.
-/
module

public import proofs.«01_k».proof.Defs
public import proofs.«01_k».proof.Proof.Common
public import proofs.«01_k».proof.Proof.Gen.KernelIdeal.Value
public import proofs.«01_k».proof.Proof.Gen.ReferenceIdeal.Run

@[expose] public section

set_option maxRecDepth 16384

noncomputable section

open Idealize.ShloMosaic Idealize.ShloMosaic.TcCoe Idealize.SL.Sem Cert.Layer

namespace Cert.KernelIdeal.Body

open Cert.KernelIdeal Cert.KernelIdeal.Gen

section Bodies

variable (c : Dev nD) (i : grid0.Coords) (a2 : Memref sig .tc .vmem S1024x2048 .bf16) (h2 : a2.IsWhole)
  (a3 : Memref sig .tc .vmem S2048x2048 .f32) (h3 : a3.IsWhole) (a4 : Memref sig .tc .vmem S1024x2048 .bf16) (h4 : a4.IsWhole)
  (a5 : Memref sig .tc .vmem S2048x2048 .bf16) (h5 : a5.IsWhole) (x0 : Mat 1024 2048) (x1 : Mat 2048 2048)

/-- The eight pieces that the first point of a run of row blocks stores in the scratch are, together, the transpose of
    the weights' window. -/
theorem scratch_A (hc : cond0_0 i) :
    sout0_A_0 (F := Ideal) c i a2 h2 a3 h3 a4 h4 a5 h5 hc x0 x1 = fun y => x1 (ix2 (y 1) (y 0)) := by
  funext y
  unfold sout0_A_0
  frame_out
  canon_tiles x h
  all_goals (unfold_payloads; pointwise; exact congrArg x1 (congrArg₂ ix2 (Fin.ext h1.symm) (Fin.ext h0.symm)))

/-- A point that finds `xs` in the scratch leaves the gate of the row block's products with it. -/
theorem out_B (hc : ¬cond0_0 i) (xs : Mat 2048 2048) :
    out0_B_2 (F := Ideal) c i a2 h2 a3 h3 a4 h4 a5 h5 hc x0 x1 xs =
      fun y => gate (∑ k : Fin 2048, x0 (ix2 (y 0) k) * xs (ix2 k (y 1))) := by
  funext y
  unfold out0_B_2
  frame_out
  unfold_payloads
  pointwise [gate, zero_sub]

/-- The first point of a run leaves the same, over what it has just stored in the scratch. -/
theorem out_A (hc : cond0_0 i) :
    out0_A_2 (F := Ideal) c i a2 h2 a3 h3 a4 h4 a5 h5 hc x0 x1 =
      fun y => gate (∑ k : Fin 2048, x0 (ix2 (y 0) k) * x1 (ix2 (y 1) k)) := by
  have hs := scratch_A c i a2 h2 a3 h3 a4 h4 a5 h5 x0 x1 hc
  funext y
  unfold sout0_A_0 at hs
  unfold out0_A_2
  frame_out at hs
  frame_out
  rw [View.readCov_eq_canon', hs]
  unfold_payloads
  pointwise [gate, zero_sub]

end Bodies

variable (m : (ℓ : Loc nD τ sig) → Buf (Elt Ideal) ℓ)

/-- The rows that a point reads. -/
abbrev rows (c : Dev nD) (t : Fin cfg0.N) : Mat 1024 2048 := iblk m c 0 t
/-- The weights' window at a point. -/
abbrev wts (c : Dev nD) (t : Fin cfg0.N) : Mat 2048 2048 := iblk m c 1 t
/-- The launched rows. -/
abbrev argX (c : Dev nD) : Mat 8192 2048 := m ((c : Thread nD τ).loc main_arg0)
/-- The launched weights. -/
abbrev argW (c : Dev nD) : Stack 1 2048 10544 := m ((c : Thread nD τ).loc main_arg1)

/-- What a point writes back: the gate of its row block's products with its run's window of the weights. -/
theorem out_eq (c : Dev nD) (t : Fin cfg0.N) :
    (outsAt0 m c t.val t.isLt).1 = fun y => gate (∑ k : Fin 2048, rows m c t (ix2 (y 0) k) * wts m c (first t) (ix2 (y 1) k)) :=
  held_product gate (rows m c) (wts m c) (outsAt0 m c)
    (fun t h => by rw [outsAt0_A m c t h]; rw [out_A, scratch_A])
    (fun t h => by rw [outsAt0_B m c t h]; rw [out_B]; rfl) t

/-- The place of window 0 at a point of the grid. -/
theorem idx0 : ∀ t : Fin cfg0.N, win0_0.index t = ![t.val % 8, 0] :=
  (by decide +kernel : ∀ t : Fin grid0.N, win0_0.index t = ![t.val % 8, 0])
/-- The place of window 1 at a point of the grid. -/
theorem idx1 : ∀ t : Fin cfg0.N, win0_1.index t = ![6448 + 2048 * (t.val / 8), 0] :=
  (by decide +kernel : ∀ t : Fin grid0.N, win0_1.index t = ![6448 + 2048 * (t.val / 8), 0])
/-- The place of window 2 at a point of the grid. -/
theorem idx2 : ∀ t : Fin cfg0.N, win0_2.index t = ![t.val % 8, t.val / 8] :=
  (by decide +kernel : ∀ t : Fin grid0.N, win0_2.index t = ![t.val % 8, t.val / 8])

/-- The weights as the call finds them are the launched weights, transposed. -/
theorem weights_at (c : Dev nD) (r : Fin 10544) (k : Fin 2048) :
    (V m c main_v1 : Mat 10544 2048) (ix2 r k) = argW m c (ix3 0 k r) := by
  unfold V
  after_reads_at

/-- The weights' window starts at an element offset: row `r` of the window of a point is the column
    `6448 + 2048 · (the point's column block) + r` of the weights. -/
theorem wts_at (c : Dev nD) (t : Fin cfg0.N) (r k : Fin 2048) (col : Fin 10544)
    (hc : col.val = 6448 + 2048 * (t.val / 8) + r.val) : wts m c t (ix2 r k) = argW m c (ix3 0 k col) := by
  rw [← weights_at]
  refine congrArg (V m c main_v1) (funext fun a => Fin.ext ?_)
  have e := idx1 t
  match a with
  | ⟨0, _⟩ =>
    show win0_1.index t 0 + 1 * r.val = col.val
    rw [e, hc]; show 6448 + 2048 * (t.val / 8) + 1 * r.val = _; omega
  | ⟨1, _⟩ =>
    show win0_1.index t 1 + 1 * k.val = k.val
    rw [e]; show 0 + 1 * k.val = _; omega

/-- Row `r` of a point's row block is row `1024 · (the point's row block) + r` of the rows. -/
theorem rows_at (c : Dev nD) (t : Fin cfg0.N) (r : Fin 1024) (k : Fin 2048) (row : Fin 8192)
    (hr : row.val = 1024 * (t.val % 8) + r.val) : rows m c t (ix2 r k) = argX m c (ix2 row k) := by
  refine Eq.trans (congrArg (V m c main_arg0) (funext fun a => Fin.ext ?_)) (congrFun (V_main_arg0 m c) _)
  have e := idx0 t
  match a with
  | ⟨0, _⟩ =>
    show win0_0.index t 0 * 1024 + 1 * r.val = row.val
    rw [e, hr]; show t.val % 8 * 1024 + 1 * r.val = _; omega
  | ⟨1, _⟩ =>
    show win0_0.index t 1 * 2048 + 1 * k.val = k.val
    rw [e]; show 0 * 2048 + 1 * k.val = _; omega

/-- The result: the gate of the products of the rows with the weights' last 4096 columns. -/
def result (X : Mat 8192 2048) (W : Stack 1 2048 10544) : Mat 8192 4096 := fun i =>
  gate (proj X W (i 0) ⟨6448 + (i 1).val, by have : (i 1).val < 4096 := (i 1).isLt; omega⟩)

/-- After the run the result array holds that. -/
theorem final (c : Dev nD) : (dats m 0 c).arrAt 2 cfg0.N = result (argX m c) (argW m c) := by
  refine (dats m 0 c).arrAt_eq_of_covers 2 _ (by decide +kernel) fun t hf y => ?_
  blk_simp
  rw [after0_2, out_eq]
  have ht : t.val < 16 := t.isLt
  have h0 : ((win0_2.blk t).view.emb y 0).val = 1024 * (t.val % 8) + (y 0).val := by
    show win0_2.index t 0 * 1024 + 1 * (y 0).val = _
    rw [idx2 t]; show t.val % 8 * 1024 + 1 * (y 0).val = _; omega
  have h1 : ((win0_2.blk t).view.emb y 1).val = 2048 * (t.val / 8) + (y 1).val := by
    show win0_2.index t 1 * 2048 + 1 * (y 1).val = _
    rw [idx2 t]; show t.val / 8 * 2048 + 1 * (y 1).val = _; omega
  refine congrArg gate (Finset.sum_congr rfl fun k _ => ?_)
  rw [rows_at m c t (y 0) k _ h0]
  refine congrArg _ (wts_at m c (first t) (y 1) k _ ?_)
  show 6448 + ((win0_2.blk t).view.emb y 1).val = 6448 + 2048 * (8 * (t.val / 8) / 8) + (y 1).val
  rw [h1]; omega

/-- The call with the host code before it and the reference end with equal results, whatever the arguments. -/
theorem algebraic : algebraic_KernelIdeal_ReferenceIdeal := by
  intro m g m' g' _ hagree
  refine ⟨fun c => result (argX m c) (argW m c), ?_, ?_⟩
  · exact (θ_run defs _ _).mono (fun r h c => ⟨(h c).1.trans ((Value.final2 m c).symm.trans (final m c)), (h c).2⟩) (Value.run m g)
  · refine (θ_run Cert.ReferenceIdeal.defs _ _).mono (fun r h c => ⟨(h c).1.trans ?_, (h c).2⟩) (Cert.ReferenceIdeal.Value.run m' g')
    rw [(hagree c).1, (hagree c).2]
    funext i
    clean_types
    pointwise [result, gate, proj]

end Cert.KernelIdeal.Body

end
-- ==== Proof.Rw.lean ====
/-
  The projection that makes the recurrent branch's inputs, over an element-indexed window of the transposed weights: its value at every
  index, and the claim that it is the reference's.
-/
module

public import proofs.«01_k».proof.Defs
public import proofs.«01_k».proof.Proof.Common
public import proofs.«01_k».proof.Proof.Gen.KernelRwIdeal.Value
public import proofs.«01_k».proof.Proof.Gen.ReferenceRwIdeal.Run

@[expose] public section

set_option maxRecDepth 16384

noncomputable section

open Idealize.ShloMosaic Idealize.ShloMosaic.TcCoe Idealize.SL.Sem Cert.Layer

namespace Cert.KernelRwIdeal.Body

open Cert.KernelRwIdeal Cert.KernelRwIdeal.Gen

section Bodies

variable (c : Dev nD) (i : grid0.Coords) (a2 : Memref sig .tc .vmem S1024x2048 .bf16) (h2 : a2.IsWhole)
  (a3 : Memref sig .tc .vmem S1792x2048 .f32) (h3 : a3.IsWhole) (a4 : Memref sig .tc .vmem S1024x1792 .f32) (h4 : a4.IsWhole)
  (a5 : Memref sig .tc .vmem S2048x1792 .bf16) (h5 : a5.IsWhole) (x0 : Mat 1024 2048) (x1 : Mat 1792 2048)

/-- The seven pieces that the first point of a run of row blocks stores in the scratch are, together, the transpose of
    the weights' window. -/
theorem scratch_A (hc : cond0_0 i) :
    sout0_A_0 (F := Ideal) c i a2 h2 a3 h3 a4 h4 a5 h5 hc x0 x1 = fun y => x1 (ix2 (y 1) (y 0)) := by
  funext y
  unfold sout0_A_0
  frame_out
  canon_tiles x h
  all_goals (unfold_payloads; pointwise; exact congrArg x1 (congrArg₂ ix2 (Fin.ext h1.symm) (Fin.ext h0.symm)))

/-- A point that finds `xs` in the scratch leaves the row block's products with it. -/
theorem out_B (hc : ¬cond0_0 i) (xs : Mat 2048 1792) :
    out0_B_2 (F := Ideal) c i a2 h2 a3 h3 a4 h4 a5 h5 hc x0 x1 xs =
      fun y => (∑ k : Fin 2048, x0 (ix2 (y 0) k) * xs (ix2 k (y 1))) := by
  funext y
  unfold out0_B_2
  frame_out
  unfold_payloads
  pointwise

/-- The first point of a run leaves the same, over what it has just stored in the scratch. -/
theorem out_A (hc : cond0_0 i) :
    out0_A_2 (F := Ideal) c i a2 h2 a3 h3 a4 h4 a5 h5 hc x0 x1 =
      fun y => (∑ k : Fin 2048, x0 (ix2 (y 0) k) * x1 (ix2 (y 1) k)) := by
  have hs := scratch_A c i a2 h2 a3 h3 a4 h4 a5 h5 x0 x1 hc
  funext y
  unfold sout0_A_0 at hs
  unfold out0_A_2
  frame_out at hs
  frame_out
  rw [View.readCov_eq_canon', hs]
  unfold_payloads
  pointwise

end Bodies

variable (m : (ℓ : Loc nD τ sig) → Buf (Elt Ideal) ℓ)

/-- The rows that a point reads. -/
abbrev rows (c : Dev nD) (t : Fin cfg0.N) : Mat 1024 2048 := iblk m c 0 t
/-- The weights' window at a point. -/
abbrev wts (c : Dev nD) (t : Fin cfg0.N) : Mat 1792 2048 := iblk m c 1 t
/-- The launched rows. -/
abbrev argX (c : Dev nD) : Mat 8192 2048 := m ((c : Thread nD τ).loc main_arg0)
/-- The launched weights. -/
abbrev argW (c : Dev nD) : Stack 1 2048 10544 := m ((c : Thread nD τ).loc main_arg1)

/-- What a point writes back: its row block's products with its run's window of the weights. -/
theorem out_eq (c : Dev nD) (t : Fin cfg0.N) :
    (outsAt0 m c t.val t.isLt).1 = fun y => (∑ k : Fin 2048, rows m c t (ix2 (y 0) k) * wts m c (first t) (ix2 (y 1) k)) :=
  held_product (fun z => z) (rows m c) (wts m c) (outsAt0 m c)
    (fun t h => by rw [outsAt0_A m c t h]; rw [out_A, scratch_A])
    (fun t h => by rw [outsAt0_B m c t h]; rw [out_B]; rfl) t

/-- The place of window 0 at a point of the grid. -/
theorem idx0 : ∀ t : Fin cfg0.N, win0_0.index t = ![t.val % 8, 0] :=
  (by decide +kernel : ∀ t : Fin grid0.N, win0_0.index t = ![t.val % 8, 0])
/-- The place of window 1 at a point of the grid. -/
theorem idx1 : ∀ t : Fin cfg0.N, win0_1.index t = ![1792 * (t.val / 8), 0] :=
  (by decide +kernel : ∀ t : Fin grid0.N, win0_1.index t = ![1792 * (t.val / 8), 0])
/-- The place of window 2 at a point of the grid. -/
theorem idx2 : ∀ t : Fin cfg0.N, win0_2.index t = ![t.val % 8, t.val / 8] :=
  (by decide +kernel : ∀ t : Fin grid0.N, win0_2.index t = ![t.val % 8, t.val / 8])

/-- The weights as the call finds them are the launched weights, transposed. -/
theorem weights_at (c : Dev nD) (r : Fin 10544) (k : Fin 2048) :
    (V m c main_v1 : Mat 10544 2048) (ix2 r k) = argW m c (ix3 0 k r) := by
  unfold V
  after_reads_at

/-- The weights' window starts at an element offset: row `r` of the window of a point is the column
    `1792 · (the point's column block) + r` of the weights. -/
theorem wts_at (c : Dev nD) (t : Fin cfg0.N) (r : Fin 1792) (k : Fin 2048) (col : Fin 10544)
    (hc : col.val = 1792 * (t.val / 8) + r.val) : wts m c t (ix2 r k) = argW m c (ix3 0 k col) := by
  rw [← weights_at]
  refine congrArg (V m c main_v1) (funext fun a => Fin.ext ?_)
  have e := idx1 t
  match a with
  | ⟨0, _⟩ =>
    show win0_1.index t 0 + 1 * r.val = col.val
    rw [e, hc]; show 1792 * (t.val / 8) + 1 * r.val = _; omega
  | ⟨1, _⟩ =>
    show win0_1.index t 1 + 1 * k.val = k.val
    rw [e]; show 0 + 1 * k.val = _; omega

/-- Row `r` of a point's row block is row `1024 · (the point's row block) + r` of the rows. -/
theorem rows_at (c : Dev nD) (t : Fin cfg0.N) (r : Fin 1024) (k : Fin 2048) (row : Fin 8192)
    (hr : row.val = 1024 * (t.val % 8) + r.val) : rows m c t (ix2 r k) = argX m c (ix2 row k) := by
  refine Eq.trans (congrArg (V m c main_arg0) (funext fun a => Fin.ext ?_)) (congrFun (V_main_arg0 m c) _)
  have e := idx0 t
  match a with
  | ⟨0, _⟩ =>
    show win0_0.index t 0 * 1024 + 1 * r.val = row.val
    rw [e, hr]; show t.val % 8 * 1024 + 1 * r.val = _; omega
  | ⟨1, _⟩ =>
    show win0_0.index t 1 * 2048 + 1 * k.val = k.val
    rw [e]; show 0 * 2048 + 1 * k.val = _; omega

/-- The result: the products of the rows with the weights' first 3584 columns. -/
def result (X : Mat 8192 2048) (W : Stack 1 2048 10544) : Mat 8192 3584 := fun i =>
  proj X W (i 0) ⟨(i 1).val, by have : (i 1).val < 3584 := (i 1).isLt; omega⟩

/-- After the run the result array holds that. -/
theorem final (c : Dev nD) : (dats m 0 c).arrAt 2 cfg0.N = result (argX m c) (argW m c) := by
  refine (dats m 0 c).arrAt_eq_of_covers 2 _ (by decide +kernel) fun t hf y => ?_
  blk_simp
  rw [after0_2, out_eq]
  have ht : t.val < 16 := t.isLt
  have h0 : ((win0_2.blk t).view.emb y 0).val = 1024 * (t.val % 8) + (y 0).val := by
    show win0_2.index t 0 * 1024 + 1 * (y 0).val = _
    rw [idx2 t]; show t.val % 8 * 1024 + 1 * (y 0).val = _; omega
  have h1 : ((win0_2.blk t).view.emb y 1).val = 1792 * (t.val / 8) + (y 1).val := by
    show win0_2.index t 1 * 1792 + 1 * (y 1).val = _
    rw [idx2 t]; show t.val / 8 * 1792 + 1 * (y 1).val = _; omega
  show (∑ k : Fin 2048, rows m c t (ix2 (y 0) k) * wts m c (first t) (ix2 (y 1) k)) = proj _ _ _ _
  refine Finset.sum_congr rfl fun k _ => ?_
  rw [rows_at m c t (y 0) k _ h0]
  refine congrArg _ (wts_at m c (first t) (y 1) k _ ?_)
  show ((win0_2.blk t).view.emb y 1).val = 1792 * (8 * (t.val / 8) / 8) + (y 1).val
  rw [h1]; omega

/-- The call with the host code before it and the reference end with equal results, whatever the arguments. -/
theorem algebraic : algebraic_KernelRwIdeal_ReferenceRwIdeal := by
  intro m g m' g' _ hagree
  refine ⟨fun c => result (argX m c) (argW m c), ?_, ?_⟩
  · exact (θ_run defs _ _).mono (fun r h c => ⟨(h c).1.trans ((Value.final2 m c).symm.trans (final m c)), (h c).2⟩) (Value.run m g)
  · refine (θ_run Cert.ReferenceRwIdeal.defs _ _).mono (fun r h c => ⟨(h c).1.trans ?_, (h c).2⟩) (Cert.ReferenceRwIdeal.Value.run m' g')
    rw [(hagree c).1, (hagree c).2]
    funext i
    clean_types
    pointwise [result, proj]

end Cert.KernelRwIdeal.Body

end
-- ==== Proof.Fox.lean ====
/-
  The projection that makes the attention branch's keys, queries, values and decays, over an element-indexed window of the transposed weights: its value at every
  index, and the claim that it is the reference's.
-/
module

public import proofs.«01_k».proof.Defs
public import proofs.«01_k».proof.Proof.Common
public import proofs.«01_k».proof.Proof.Gen.KernelFoxIdeal.Value
public import proofs.«01_k».proof.Proof.Gen.ReferenceFoxIdeal.Run

@[expose] public section

set_option maxRecDepth 16384

noncomputable section

open Idealize.ShloMosaic Idealize.ShloMosaic.TcCoe Idealize.SL.Sem Cert.Layer

namespace Cert.KernelFoxIdeal.Body

open Cert.KernelFoxIdeal Cert.KernelFoxIdeal.Gen

section Bodies

variable (c : Dev nD) (i : grid0.Coords) (a2 : Memref sig .tc .vmem S1024x2048 .bf16) (h2 : a2.IsWhole)
  (a3 : Memref sig .tc .vmem S1792x2048 .f32) (h3 : a3.IsWhole) (a4 : Memref sig .tc .vmem S1024x1792 .f32) (h4 : a4.IsWhole)
  (a5 : Memref sig .tc .vmem S2048x1792 .bf16) (h5 : a5.IsWhole) (x0 : Mat 1024 2048) (x1 : Mat 1792 2048)

/-- The seven pieces that the first point of a run of row blocks stores in the scratch are, together, the transpose of
    the weights' window. -/
theorem scratch_A (hc : cond0_0 i) :
    sout0_A_0 (F := Ideal) c i a2 h2 a3 h3 a4 h4 a5 h5 hc x0 x1 = fun y => x1 (ix2 (y 1) (y 0)) := by
  funext y
  unfold sout0_A_0
  frame_out
  canon_tiles x h
  all_goals (unfold_payloads; pointwise; exact congrArg x1 (congrArg₂ ix2 (Fin.ext h1.symm) (Fin.ext h0.symm)))

/-- A point that finds `xs` in the scratch leaves the row block's products with it. -/
theorem out_B (hc : ¬cond0_0 i) (xs : Mat 2048 1792) :
    out0_B_2 (F := Ideal) c i a2 h2 a3 h3 a4 h4 a5 h5 hc x0 x1 xs =
      fun y => (∑ k : Fin 2048, x0 (ix2 (y 0) k) * xs (ix2 k (y 1))) := by
  funext y
  unfold out0_B_2
  frame_out
  unfold_payloads
  pointwise

/-- The first point of a run leaves the same, over what it has just stored in the scratch. -/
theorem out_A (hc : cond0_0 i) :
    out0_A_2 (F := Ideal) c i a2 h2 a3 h3 a4 h4 a5 h5 hc x0 x1 =
      fun y => (∑ k : Fin 2048, x0 (ix2 (y 0) k) * x1 (ix2 (y 1) k)) := by
  have hs := scratch_A c i a2 h2 a3 h3 a4 h4 a5 h5 x0 x1 hc
  funext y
  unfold sout0_A_0 at hs
  unfold out0_A_2
  frame_out at hs
  frame_out
  rw [View.readCov_eq_canon', hs]
  unfold_payloads
  pointwise

end Bodies

variable (m : (ℓ : Loc nD τ sig) → Buf (Elt Ideal) ℓ)

/-- The rows that a point reads. -/
abbrev rows (c : Dev nD) (t : Fin cfg0.N) : Mat 1024 2048 := iblk m c 0 t
/-- The weights' window at a point. -/
abbrev wts (c : Dev nD) (t : Fin cfg0.N) : Mat 1792 2048 := iblk m c 1 t
/-- The launched rows. -/
abbrev argX (c : Dev nD) : Mat 8192 2048 := m ((c : Thread nD τ).loc main_arg0)
/-- The launched weights. -/
abbrev argW (c : Dev nD) : Stack 1 2048 10544 := m ((c : Thread nD τ).loc main_arg1)

/-- What a point writes back: its row block's products with its run's window of the weights. -/
theorem out_eq (c : Dev nD) (t : Fin cfg0.N) :
    (outsAt0 m c t.val t.isLt).1 = fun y => (∑ k : Fin 2048, rows m c t (ix2 (y 0) k) * wts m c (first t) (ix2 (y 1) k)) :=
  held_product (fun z => z) (rows m c) (wts m c) (outsAt0 m c)
    (fun t h => by rw [outsAt0_A m c t h]; rw [out_A, scratch_A])
    (fun t h => by rw [outsAt0_B m c t h]; rw [out_B]; rfl) t

/-- The place of window 0 at a point of the grid. -/
theorem idx0 : ∀ t : Fin cfg0.N, win0_0.index t = ![t.val % 8, 0] :=
  (by decide +kernel : ∀ t : Fin grid0.N, win0_0.index t = ![t.val % 8, 0])
/-- The place of window 1 at a point of the grid. -/
theorem idx1 : ∀ t : Fin cfg0.N, win0_1.index t = ![3360 + 1792 * (t.val / 8), 0] :=
  (by decide +kernel : ∀ t : Fin grid0.N, win0_1.index t = ![3360 + 1792 * (t.val / 8), 0])
/-- The place of window 2 at a point of the grid. -/
theorem idx2 : ∀ t : Fin cfg0.N, win0_2.index t = ![t.val % 8, t.val / 8] :=
  (by decide +kernel : ∀ t : Fin grid0.N, win0_2.index t = ![t.val % 8, t.val / 8])

/-- The weights as the call finds them are the launched weights, transposed. -/
theorem weights_at (c : Dev nD) (r : Fin 10544) (k : Fin 2048) :
    (V m c main_v1 : Mat 10544 2048) (ix2 r k) = argW m c (ix3 0 k r) := by
  unfold V
  after_reads_at

/-- The weights' window starts at an element offset: row `r` of the window of a point is the column
    `3360 + 1792 · (the point's column block) + r` of the weights. -/
theorem wts_at (c : Dev nD) (t : Fin cfg0.N) (r : Fin 1792) (k : Fin 2048) (col : Fin 10544)
    (hc : col.val = 3360 + 1792 * (t.val / 8) + r.val) : wts m c t (ix2 r k) = argW m c (ix3 0 k col) := by
  rw [← weights_at]
  refine congrArg (V m c main_v1) (funext fun a => Fin.ext ?_)
  have e := idx1 t
  match a with
  | ⟨0, _⟩ =>
    show win0_1.index t 0 + 1 * r.val = col.val
    rw [e, hc]; show 3360 + 1792 * (t.val / 8) + 1 * r.val = _; omega
  | ⟨1, _⟩ =>
    show win0_1.index t 1 + 1 * k.val = k.val
    rw [e]; show 0 + 1 * k.val = _; omega

/-- Row `r` of a point's row block is row `1024 · (the point's row block) + r` of the rows. -/
theorem rows_at (c : Dev nD) (t : Fin cfg0.N) (r : Fin 1024) (k : Fin 2048) (row : Fin 8192)
    (hr : row.val = 1024 * (t.val % 8) + r.val) : rows m c t (ix2 r k) = argX m c (ix2 row k) := by
  refine Eq.trans (congrArg (V m c main_arg0) (funext fun a => Fin.ext ?_)) (congrFun (V_main_arg0 m c) _)
  have e := idx0 t
  match a with
  | ⟨0, _⟩ =>
    show win0_0.index t 0 * 1024 + 1 * r.val = row.val
    rw [e, hr]; show t.val % 8 * 1024 + 1 * r.val = _; omega
  | ⟨1, _⟩ =>
    show win0_0.index t 1 * 2048 + 1 * k.val = k.val
    rw [e]; show 0 * 2048 + 1 * k.val = _; omega

/-- The result: the products of the rows with the weights' columns 3360 to 6943. -/
def result (X : Mat 8192 2048) (W : Stack 1 2048 10544) : Mat 8192 3584 := fun i =>
  proj X W (i 0) ⟨3360 + (i 1).val, by have : (i 1).val < 3584 := (i 1).isLt; omega⟩

/-- After the run the result array holds that. -/
theorem final (c : Dev nD) : (dats m 0 c).arrAt 2 cfg0.N = result (argX m c) (argW m c) := by
  refine (dats m 0 c).arrAt_eq_of_covers 2 _ (by decide +kernel) fun t hf y => ?_
  blk_simp
  rw [after0_2, out_eq]
  have ht : t.val < 16 := t.isLt
  have h0 : ((win0_2.blk t).view.emb y 0).val = 1024 * (t.val % 8) + (y 0).val := by
    show win0_2.index t 0 * 1024 + 1 * (y 0).val = _
    rw [idx2 t]; show t.val % 8 * 1024 + 1 * (y 0).val = _; omega
  have h1 : ((win0_2.blk t).view.emb y 1).val = 1792 * (t.val / 8) + (y 1).val := by
    show win0_2.index t 1 * 1792 + 1 * (y 1).val = _
    rw [idx2 t]; show t.val / 8 * 1792 + 1 * (y 1).val = _; omega
  show (∑ k : Fin 2048, rows m c t (ix2 (y 0) k) * wts m c (first t) (ix2 (y 1) k)) = proj _ _ _ _
  refine Finset.sum_congr rfl fun k _ => ?_
  rw [rows_at m c t (y 0) k _ h0]
  refine congrArg _ (wts_at m c (first t) (y 1) k _ ?_)
  show 3360 + ((win0_2.blk t).view.emb y 1).val = 3360 + 1792 * (8 * (t.val / 8) / 8) + (y 1).val
  rw [h1]; omega

/-- The call with the host code before it and the reference end with equal results, whatever the arguments. -/
theorem algebraic : algebraic_KernelFoxIdeal_ReferenceFoxIdeal := by
  intro m g m' g' _ hagree
  refine ⟨fun c => result (argX m c) (argW m c), ?_, ?_⟩
  · exact (θ_run defs _ _).mono (fun r h c => ⟨(h c).1.trans ((Value.final2 m c).symm.trans (final m c)), (h c).2⟩) (Value.run m g)
  · refine (θ_run Cert.ReferenceFoxIdeal.defs _ _).mono (fun r h c => ⟨(h c).1.trans ?_, (h c).2⟩) (Cert.ReferenceFoxIdeal.Value.run m' g')
    rw [(hagree c).1, (hagree c).2]
    funext i
    clean_types
    pointwise [result, proj]

end Cert.KernelFoxIdeal.Body

end
-- ==== Proof.Mlp.lean ====
/-
  The multilayer perceptron and the last normalization: their value at every index, and the claim that it is the
  reference's. The kernel sums the hidden units in eight blocks of 1024, in the output's own buffer.
-/
module

public import proofs.«01_k».proof.Defs
public import proofs.«01_k».proof.Proof.Common
public import proofs.«01_k».proof.Proof.Gen.KernelMlpIdeal.Value
public import proofs.«01_k».proof.Proof.Gen.ReferenceMlpIdeal.Run

@[expose] public section

set_option maxRecDepth 16384

noncomputable section

open Idealize.ShloMosaic Idealize.ShloMosaic.TcCoe Idealize.SL.Sem Cert.Layer

namespace Cert.KernelMlpIdeal.Body

open Cert.KernelMlpIdeal Cert.KernelMlpIdeal.Gen

section Bodies

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1024x2048 .bf16) (h5 : a5.IsWhole) (a6 : Memref sig .tc .vmem S1x2048 .f32) (h6 : a6.IsWhole)
  (a7 : Memref sig .tc .vmem S512x2048 .f32) (h7 : a7.IsWhole) (a8 : Memref sig .tc .vmem S512x2048 .bf16) (h8 : a8.IsWhole)
  (x0 : Mat 512 2048) (x1 : Mat 1 2048) (x2 : Mat 2048 1024) (x3 : Mat 1024 2048) (x4 : Mat 1 2048)

/-- What a point adds: over its 1024 hidden units, the squared positive part of the unit's input times its weight. -/
def step (xs : Mat 512 2048) (x2 : Mat 2048 1024) (x3 : Mat 1024 2048) : Mat 512 2048 := fun y =>
  ∑ j : Fin 1024, sqrelu (∑ k : Fin 2048, xs (ix2 (y 0) k) * x2 (ix2 k j)) * x3 (ix2 j (y 1))

/-- The first point of a run stores the normalized rows in the scratch. -/
theorem scratch_A (hc0 : cond0_0 i) (hc1 : ¬cond0_1 i) :
    sout0_A_0 (F := Ideal) c i a2 h2 a3 h3 a4 h4 a5 h5 a6 h6 a7 h7 a8 h8 hc0 hc1 x0 x1 x2 x3 x4 =
      fun y => rms x0 (fun k => x1 (ix2 0 k)) (y 0) (y 1) := by
  funext y
  unfold sout0_A_0
  frame_out
  unfold_payloads
  pointwise [rms]

/-- The first point of a run leaves what its hidden units add. -/
theorem out_A (hc0 : cond0_0 i) (hc1 : ¬cond0_1 i) :
    out0_A_5 (F := Ideal) c i a2 h2 a3 h3 a4 h4 a5 h5 a6 h6 a7 h7 a8 h8 hc0 hc1 x0 x1 x2 x3 x4 =
      step (fun y => rms x0 (fun k => x1 (ix2 0 k)) (y 0) (y 1)) x2 x3 := by
  funext y
  unfold out0_A_5
  frame_out
  unfold_payloads
  pointwise [rms, step, sqrelu]

/-- A point between adds what its hidden units add. -/
theorem out_B (hc0 : ¬cond0_0 i) (hc1 : ¬cond0_1 i) (xo : Mat 512 2048) (xs : Mat 512 2048) :
    out0_B_5 (F := Ideal) c i a2 h2 a3 h3 a4 h4 a5 h5 a6 h6 a7 h7 a8 h8 hc0 hc1 x0 x1 x2 x3 x4 xo xs =
      fun y => xo y + step xs x2 x3 y := by
  funext y
  unfold out0_B_5
  frame_out
  unfold_payloads
  pointwise [step, sqrelu]

/-- The last point of a run adds what its hidden units add, adds the rows and normalizes. -/
theorem out_C (hc0 : ¬cond0_0 i) (hc1 : cond0_1 i) (xo : Mat 512 2048) (xs : Mat 512 2048) :
    out0_C_5 (F := Ideal) c i a2 h2 a3 h3 a4 h4 a5 h5 a6 h6 a7 h7 a8 h8 hc0 hc1 x0 x1 x2 x3 x4 xo xs =
      fun y => rms (fun z => x0 z + (xo z + step xs x2 x3 z)) (fun k => x4 (ix2 0 k)) (y 0) (y 1) := by
  funext y
  unfold out0_C_5
  frame_out
  unfold_payloads
  pointwise [rms, step, sqrelu]

end Bodies

variable (m : (ℓ : Loc nD τ sig) → Buf (Elt Ideal) ℓ)

/-- The rows that a point reads. -/
abbrev rows (c : Dev nD) (t : Fin cfg0.N) : Mat 512 2048 := iblk m c 0 t
/-- The first gains that a point reads. -/
abbrev gain (c : Dev nD) (t : Fin cfg0.N) : Mat 1 2048 := iblk m c 1 t
/-- The hidden units' input weights that a point reads. -/
abbrev up (c : Dev nD) (t : Fin cfg0.N) : Mat 2048 1024 := iblk m c 2 t
/-- The hidden units' output weights that a point reads. -/
abbrev down (c : Dev nD) (t : Fin cfg0.N) : Mat 1024 2048 := iblk m c 3 t
/-- The last gains that a point reads. -/
abbrev lastGain (c : Dev nD) (t : Fin cfg0.N) : Mat 1 2048 := iblk m c 4 t
/-- The launched rows. -/
abbrev argX (c : Dev nD) : Mat 8192 2048 := m ((c : Thread nD τ).loc main_arg0)
/-- The launched first gains. -/
abbrev argG (c : Dev nD) : Mat 1 2048 := m ((c : Thread nD τ).loc main_arg1)
/-- The launched input weights. -/
abbrev argU (c : Dev nD) : Stack 1 2048 8192 := m ((c : Thread nD τ).loc main_arg2)
/-- The launched output weights. -/
abbrev argD (c : Dev nD) : Stack 1 8192 2048 := m ((c : Thread nD τ).loc main_arg3)
/-- The launched last gains. -/
abbrev argF (c : Dev nD) : (⟨1, ![2048]⟩ : Shape).Idx → EReal := m ((c : Thread nD τ).loc main_arg4)

/-- The place of window 0 at a point of the grid. -/
theorem idx0 : ∀ t : Fin cfg0.N, win0_0.index t = ![t.val / 8, 0] :=
  (by decide +kernel : ∀ t : Fin grid0.N, win0_0.index t = ![t.val / 8, 0])
/-- The place of window 1 at a point of the grid. -/
theorem idx1 : ∀ t : Fin cfg0.N, win0_1.index t = ![0, 0] :=
  (by decide +kernel : ∀ t : Fin grid0.N, win0_1.index t = ![0, 0])
/-- The place of window 2 at a point of the grid. -/
theorem idx2 : ∀ t : Fin cfg0.N, win0_2.index t = ![0, t.val % 8] :=
  (by decide +kernel : ∀ t : Fin grid0.N, win0_2.index t = ![0, t.val % 8])
/-- The place of window 3 at a point of the grid. -/
theorem idx3 : ∀ t : Fin cfg0.N, win0_3.index t = ![t.val % 8, 0] :=
  (by decide +kernel : ∀ t : Fin grid0.N, win0_3.index t = ![t.val % 8, 0])
/-- The place of window 4 at a point of the grid. -/
theorem idx4 : ∀ t : Fin cfg0.N, win0_4.index t = ![0, 0] :=
  (by decide +kernel : ∀ t : Fin grid0.N, win0_4.index t = ![0, 0])
/-- The place of window 5 at a point of the grid. -/
theorem idx5 : ∀ t : Fin cfg0.N, win0_5.index t = ![t.val / 8, 0] :=
  (by decide +kernel : ∀ t : Fin grid0.N, win0_5.index t = ![t.val / 8, 0])

/-- Row `r` of a point's row block is row `512 · (the point's row block) + r` of the rows. -/
theorem rows_at (c : Dev nD) (t : Fin cfg0.N) (r : Fin 512) (k : Fin 2048) (row : Fin 8192)
    (hr : row.val = 512 * (t.val / 8) + r.val) : rows m c t (ix2 r k) = argX m c (ix2 row k) := by
  refine Eq.trans (congrArg (V m c main_arg0) (funext fun a => Fin.ext ?_)) (congrFun (V_main_arg0 m c) _)
  have e := idx0 t
  match a with
  | ⟨0, _⟩ =>
    show win0_0.index t 0 * 512 + 1 * r.val = row.val
    rw [e, hr]; show t.val / 8 * 512 + 1 * r.val = _; omega
  | ⟨1, _⟩ =>
    show win0_0.index t 1 * 2048 + 1 * k.val = k.val
    rw [e]; show 0 * 2048 + 1 * k.val = _; omega

/-- A point reads the launched first gains. -/
theorem gain_at (c : Dev nD) (t : Fin cfg0.N) (k : Fin 2048) : gain m c t (ix2 0 k) = argG m c (ix2 0 k) := by
  have hv : (V m c main_v5 : Mat 1 2048) (ix2 0 k) = argG m c (ix2 0 k) := by
    unfold V
    after_reads_at
  refine Eq.trans (congrArg (V m c main_v5) (funext fun a => Fin.ext ?_)) hv
  have e := idx1 t
  match a with
  | ⟨0, _⟩ =>
    show win0_1.index t 0 * 1 + 1 * 0 = 0
    rw [e]; rfl
  | ⟨1, _⟩ =>
    show win0_1.index t 1 * 2048 + 1 * k.val = k.val
    rw [e]; show 0 * 2048 + 1 * k.val = _; omega

/-- A point reads the launched last gains. -/
theorem lastGain_at (c : Dev nD) (t : Fin cfg0.N) (k : Fin 2048) : lastGain m c t (ix2 0 k) = argF m c (ix1 k) := by
  have hv : (V m c main_v6 : Mat 1 2048) (ix2 0 k) = argF m c (ix1 k) := by
    unfold V
    after_reads_at
  refine Eq.trans (congrArg (V m c main_v6) (funext fun a => Fin.ext ?_)) hv
  have e := idx4 t
  match a with
  | ⟨0, _⟩ =>
    show win0_4.index t 0 * 1 + 1 * 0 = 0
    rw [e]; rfl
  | ⟨1, _⟩ =>
    show win0_4.index t 1 * 2048 + 1 * k.val = k.val
    rw [e]; show 0 * 2048 + 1 * k.val = _; omega

/-- Unit `j` of a point's input weights is unit `1024 · (the point's block) + j` of the launched ones. -/
theorem up_at (c : Dev nD) (t : Fin cfg0.N) (k : Fin 2048) (j : Fin 1024) (u : Fin 8192)
    (hu : u.val = t.val % 8 * 1024 + j.val) : up m c t (ix2 k j) = argU m c (ix3 0 k u) := by
  have hv : (V m c main_v2 : Mat 2048 8192) (ix2 k u) = argU m c (ix3 0 k u) := by
    unfold V
    after_reads_at
  refine Eq.trans (congrArg (V m c main_v2) (funext fun a => Fin.ext ?_)) hv
  have e := idx2 t
  match a with
  | ⟨0, _⟩ =>
    show win0_2.index t 0 * 2048 + 1 * k.val = k.val
    rw [e]; show 0 * 2048 + 1 * k.val = _; omega
  | ⟨1, _⟩ =>
    show win0_2.index t 1 * 1024 + 1 * j.val = u.val
    rw [e, hu]; show t.val % 8 * 1024 + 1 * j.val = _; omega

/-- Unit `j` of a point's output weights is unit `1024 · (the point's block) + j` of the launched ones. -/
theorem down_at (c : Dev nD) (t : Fin cfg0.N) (j : Fin 1024) (k : Fin 2048) (u : Fin 8192)
    (hu : u.val = t.val % 8 * 1024 + j.val) : down m c t (ix2 j k) = argD m c (ix3 0 u k) := by
  have hv : (V m c main_v4 : Mat 8192 2048) (ix2 u k) = argD m c (ix3 0 u k) := by
    unfold V
    after_reads_at
  refine Eq.trans (congrArg (V m c main_v4) (funext fun a => Fin.ext ?_)) hv
  have e := idx3 t
  match a with
  | ⟨0, _⟩ =>
    show win0_3.index t 0 * 1024 + 1 * j.val = u.val
    rw [e, hu]; show t.val % 8 * 1024 + 1 * j.val = _; omega
  | ⟨1, _⟩ =>
    show win0_3.index t 1 * 2048 + 1 * k.val = k.val
    rw [e]; show 0 * 2048 + 1 * k.val = _; omega

/-- What hidden unit `j` adds to entry `col` of row `row`. -/
def unit (X : Mat 8192 2048) (g : Mat 1 2048) (U : Stack 1 2048 8192) (D : Stack 1 8192 2048) (row : Fin 8192) (col : Fin 2048)
    (j : Fin 8192) : EReal :=
  sqrelu (∑ k : Fin 2048, rms X (fun k => g (ix2 0 k)) row k * U (ix3 0 k j)) * D (ix3 0 j col)

/-- The same for any number `j`, with nothing added past the last unit. -/
def unitN (X : Mat 8192 2048) (g : Mat 1 2048) (U : Stack 1 2048 8192) (D : Stack 1 8192 2048) (row : Fin 8192) (col : Fin 2048)
    (j : ℕ) : EReal :=
  if h : j < 8192 then unit X g U D row col ⟨j, h⟩ else 0

/-- The row of the rows that row `r` of a point's row block is. -/
abbrev rowOf (t : Fin cfg0.N) (r : Fin 512) : Fin 8192 :=
  ⟨512 * (t.val / 8) + r.val, by have ht : t.val < 128 := t.isLt; have := r.isLt; omega⟩

/-- At every point the scratch holds the normalized rows. -/
theorem scratch_eq (c : Dev nD) (t : Fin cfg0.N) :
    (outsAt0 m c t.val t.isLt).2 = fun y : S512x2048.Idx => rms (argX m c) (fun k => argG m c (ix2 0 k)) (rowOf t (y 0)) (y 1) := by
  have hs := Pipeline.eq_of_write_hold (fun n h => (outsAt0 m c n h).2) 8
    (fun t (y : S512x2048.Idx) => rms (rows m c t) (fun k => gain m c t (ix2 0 k)) (y 0) (y 1))
    (fun t h => by rw [outsAt0_A m c t h (by omega)]; rw [scratch_A])
    (fun t h => by
      by_cases h' : t.val % 8 = 7
      · rw [outsAt0_C m c t h h']; rfl
      · rw [outsAt0_B m c t h h']; rfl) t
  refine hs.trans (funext fun y => ?_)
  refine rms_congr (fun k => rows_at m c _ _ k _ ?_) (fun k => gain_at m c _ k) (y 1)
  show 512 * (t.val / 8) + (y 0).val = 512 * (8 * (t.val / 8) / 8) + (y 0).val
  omega

/-- What a point adds is what its 1024 hidden units add. -/
theorem step_eq (c : Dev nD) (t : Fin cfg0.N) (xs : Mat 512 2048)
    (hxs : xs = fun y => rms (argX m c) (fun k => argG m c (ix2 0 k)) (rowOf t (y 0)) (y 1)) (y : S512x2048.Idx) :
    step xs (up m c t) (down m c t) y
      = ∑ j : Fin 1024, unitN (argX m c) (argG m c) (argU m c) (argD m c) (rowOf t (y 0)) (y 1) (t.val % 8 * 1024 + j.val) := by
  subst hxs
  refine Finset.sum_congr rfl fun j _ => ?_
  have hj : t.val % 8 * 1024 + j.val < 8192 := by have := j.isLt; omega
  unfold unitN
  rw [dif_pos hj]
  unfold unit
  rw [down_at m c t j (y 1) ⟨_, hj⟩ rfl]
  refine congrArg (fun z => sqrelu z * _) (Finset.sum_congr rfl fun k _ => ?_)
  rw [up_at m c t k j ⟨_, hj⟩ rfl]
  rfl

/-- What the first `n` blocks of hidden units add to entry `col` of row `row`. -/
def blocks (X : Mat 8192 2048) (g : Mat 1 2048) (U : Stack 1 2048 8192) (D : Stack 1 8192 2048) (row : Fin 8192) (col : Fin 2048)
    (n : ℕ) : EReal :=
  ∑ b ∈ Finset.range n, ∑ j : Fin 1024, unitN X g U D row col (b * 1024 + j.val)

/-- All eight blocks are all the hidden units. -/
theorem blocks_all (X : Mat 8192 2048) (g : Mat 1 2048) (U : Stack 1 2048 8192) (D : Stack 1 8192 2048) (row : Fin 8192)
    (col : Fin 2048) : blocks X g U D row col 8 = ∑ j : Fin 8192, unit X g U D row col j := by
  unfold blocks
  rw [← Fin.sum_univ_eq_sum_range (fun b => ∑ j : Fin 1024, unitN X g U D row col (b * 1024 + j.val))]
  refine (Fin.sum_univ_univ_mul_add 8 1024 (unitN X g U D row col)).trans (Finset.sum_congr rfl fun j _ => ?_)
  unfold unitN
  exact dif_pos j.isLt

/-- The scratch that the first point of a run fills. -/
theorem scratch_first (c : Dev nD) (t : Fin cfg0.N) :
    (fun y : S512x2048.Idx => rms (rows m c t) (fun k => gain m c t (ix2 0 k)) (y 0) (y 1))
      = fun y => rms (argX m c) (fun k => argG m c (ix2 0 k)) (rowOf t (y 0)) (y 1) :=
  funext fun y => rms_congr (fun k => rows_at m c t _ k _ rfl) (fun k => gain_at m c t k) (y 1)

/-- Before the last point of its run a point leaves what the hidden units up to its block's add. -/
theorem acc_eq (c : Dev nD) : ∀ (n : ℕ) (hn : n < cfg0.N), n % 8 < 7 → (outsAt0 m c n hn).1 =
    fun y : S512x2048.Idx => blocks (argX m c) (argG m c) (argU m c) (argD m c) (rowOf ⟨n, hn⟩ (y 0)) (y 1) (n % 8 + 1) := by
  have hfirst : ∀ t : Fin cfg0.N, t.val % 8 = 0 → (outsAt0 m c t.val t.isLt).1 =
      fun y : S512x2048.Idx => blocks (argX m c) (argG m c) (argU m c) (argD m c) (rowOf t (y 0)) (y 1) (t.val % 8 + 1) := by
    intro t h
    rw [outsAt0_A m c t h (by omega)]
    rw [out_A]
    funext y
    refine (step_eq m c t _ (scratch_first m c t) y).trans ?_
    unfold blocks
    rw [h]
    rw [Finset.sum_range_one]
  intro n
  induction n with
  | zero => exact fun hn _ => hfirst ⟨0, hn⟩ rfl
  | succ n ih =>
    intro hn h
    by_cases h0 : (n + 1) % 8 = 0
    · exact hfirst ⟨n + 1, hn⟩ h0
    · have e := outsAt0_B m c ⟨n + 1, hn⟩ h0 (by dsimp only; omega)
      have hp := ih (Nat.lt_of_succ_lt hn) (by omega)
      have hsc := scratch_eq m c ⟨n, Nat.lt_of_succ_lt hn⟩
      rw [out_B] at e
      refine (congrArg Prod.fst e).trans (funext fun y => ?_)
      have hr : rowOf ⟨n, Nat.lt_of_succ_lt hn⟩ = rowOf ⟨n + 1, hn⟩ := funext fun r => Fin.ext (by dsimp only; omega)
      have hm : (n + 1) % 8 = n % 8 + 1 := by omega
      rw [hr] at hp hsc
      refine (congrArg₂ (· + ·) (congrFun hp y) (step_eq m c ⟨n + 1, hn⟩ _ hsc y)).trans ?_
      dsimp only
      unfold blocks
      rw [hm, Finset.sum_range_succ _ (n % 8 + 1)]

/-- The result: the rows plus what all the hidden units add, normalized. -/
def result (X : Mat 8192 2048) (g : Mat 1 2048) (U : Stack 1 2048 8192) (D : Stack 1 8192 2048)
    (f : (⟨1, ![2048]⟩ : Shape).Idx → EReal) : Mat 8192 2048 := fun i =>
  rms (fun z : (⟨2, ![8192, 2048]⟩ : Shape).Idx => X z + ∑ j : Fin 8192, unit X g U D (z 0) (z 1) j) (fun k => f (ix1 k)) (i 0) (i 1)

/-- What the last point of a run writes back. -/
theorem out_eq (c : Dev nD) (t : Fin cfg0.N) (h : t.val % 8 = 7) (y : S512x2048.Idx) : (outsAt0 m c t.val t.isLt).1 y
    = result (argX m c) (argG m c) (argU m c) (argD m c) (argF m c) (ix2 (rowOf t (y 0)) (y 1)) := by
  have hlt : t.val - 1 < cfg0.N := Nat.lt_of_le_of_lt (Nat.sub_le _ _) t.isLt
  have hr : rowOf ⟨t.val - 1, hlt⟩ = rowOf t := funext fun r => Fin.ext (by dsimp only; omega)
  have hp := acc_eq m c (t.val - 1) hlt (by omega)
  have hsc := scratch_eq m c ⟨t.val - 1, hlt⟩
  rw [hr] at hp hsc
  rw [outsAt0_C m c t (by omega) h]
  rw [out_C]
  show rms (fun z : S512x2048.Idx => rows m c t z + ((outsAt0 m c (t.val - 1) hlt).1 z
    + step (outsAt0 m c (t.val - 1) hlt).2 (up m c t) (down m c t) z)) (fun k => lastGain m c t (ix2 0 k)) (y 0) (y 1) = _
  refine rms_congr (fun k => ?_) (fun k => lastGain_at m c t k) (y 1)
  refine congrArg₂ (· + ·) (rows_at m c t (y 0) k _ rfl) ?_
  refine (congrArg₂ (· + ·) (congrFun hp (ix2 (y 0) k)) (step_eq m c t _ hsc (ix2 (y 0) k))).trans ?_
  refine Eq.trans ?_ (blocks_all _ _ _ _ (rowOf t (y 0)) k)
  have hm : (t.val - 1) % 8 + 1 = 7 := by omega
  unfold blocks
  rw [hm, h]
  exact (Finset.sum_range_succ _ 7).symm

/-- After the run the result array holds that. -/
theorem final (c : Dev nD) : (dats m 0 c).arrAt 5 cfg0.N = result (argX m c) (argG m c) (argU m c) (argD m c) (argF m c) := by
  refine (dats m 0 c).arrAt_eq_of_covers 5 _ (by decide +kernel) fun t hf y => ?_
  blk_simp
  rw [after0_5, out_eq m c t ((flush0_5 t).mp hf) y]
  refine congrArg (result _ _ _ _ _) (funext fun a => Fin.ext ?_)
  match a with
  | ⟨0, _⟩ =>
    show 512 * (t.val / 8) + (y 0).val = win0_5.index t 0 * 512 + 1 * (y 0).val
    rw [idx5 t]; show _ = t.val / 8 * 512 + 1 * (y 0).val; omega
  | ⟨1, _⟩ =>
    show (y 1).val = win0_5.index t 1 * 2048 + 1 * (y 1).val
    rw [idx5 t]; show _ = 0 * 2048 + 1 * (y 1).val; omega

/-- The call with the host code before it and the reference end with equal results, whatever the arguments. -/
theorem algebraic : algebraic_KernelMlpIdeal_ReferenceMlpIdeal := by
  intro m g m' g' _ hagree
  refine ⟨fun c => result (argX m c) (argG m c) (argU m c) (argD m c) (argF m c), ?_, ?_⟩
  · exact (θ_run defs _ _).mono (fun r h c => ⟨(h c).1.trans ((Value.final5 m c).symm.trans (final m c)), (h c).2⟩) (Value.run m g)
  · refine (θ_run Cert.ReferenceMlpIdeal.defs _ _).mono (fun r h c => ⟨(h c).1.trans ?_, (h c).2⟩) (Cert.ReferenceMlpIdeal.Value.run m' g')
    unfold Cert.ReferenceMlpIdeal.Value.res_main_v33
    rw [(hagree c).1, (hagree c).2.1, (hagree c).2.2.1, (hagree c).2.2.2.1, (hagree c).2.2.2.2]
    funext i
    clean_types
    pointwise [result, unit, rms, sqrelu]

end Cert.KernelMlpIdeal.Body

end
-- ==== Proof.Post.lean ====
/-
  The gates' product with the two branches, the output projection, and the cross-attention over the memory: their value
  at every index, and the claim that it is the reference's.
-/
module

public import proofs.«01_k».proof.Defs
public import proofs.«01_k».proof.Proof.Common
public import proofs.«01_k».proof.Proof.Gen.KernelPostIdeal.Value
public import proofs.«01_k».proof.Proof.Gen.ReferencePostIdeal.Run

@[expose] public section

set_option maxRecDepth 16384

noncomputable section

open Idealize.ShloMosaic Idealize.ShloMosaic.TcCoe Idealize.SL.Sem Cert.Layer

namespace Cert.KernelPostIdeal.Body

open Cert.KernelPostIdeal Cert.KernelPostIdeal.Gen

/-- The 2048 columns of `P` from column `o` on. -/
def half {a : ℕ} (o : ℕ) (ho : o + 2048 ≤ 4096) (P : Mat a 4096) : Mat a 2048 := fun i =>
  P (ix2 (i 0) ⟨o + (i 1).val, by have : (i 1).val < 2048 := (i 1).isLt; omega⟩)

/-- The stream after the two branches: `x` plus the output projection of the gated sum of the branches' projections. -/
def stream {a : ℕ} (ya yb : Mat a 1024) (ga gb x : Mat a 2048) (wa wb : Mat 1024 2048) (wo : Mat 2048 2048) : Mat a 2048 := fun i =>
  x i + ∑ j : Fin 2048, (ga (ix2 (i 0) j) * ∑ l : Fin 1024, ya (ix2 (i 0) l) * wa (ix2 l j)
    + gb (ix2 (i 0) j) * ∑ l : Fin 1024, yb (ix2 (i 0) l) * wb (ix2 l j)) * wo (ix2 j (i 1))

/-- The queries: the normalized stream's products with the query weights. -/
def query {a : ℕ} (h : Mat a 2048) (g : Fin 2048 → EReal) (wq : Mat 2048 512) : Mat a 512 := fun i =>
  ∑ k : Fin 2048, rms h g (i 0) k * wq (ix2 k (i 1))

/-- The scores of a query row against the 256 memory rows, in the head whose columns start at `b`. -/
def score {a : ℕ} (q : Mat a 512) (kv : Mat 256 1024) (r : Fin a) (b : ℕ) (hb : b + 128 ≤ 512) (j : Fin 256) : EReal :=
  (∑ d : Fin 128, q (ix2 r ⟨b + d.val, by omega⟩) * kv (ix2 j ⟨b + d.val, by omega⟩)) * Ideal.ofBits FTy.f32 1035273459#32

/-- What the head whose columns start at `b` reads from the memory in column `b + l`. -/
def attend {a : ℕ} (q : Mat a 512) (kv : Mat 256 1024) (r : Fin a) (b : ℕ) (hb : b + 128 ≤ 512) (l : Fin 128) : EReal :=
  ∑ j : Fin 256, soft (score q kv r b hb) j * kv (ix2 j ⟨512 + b + l.val, by omega⟩)

/-- What the heads read, by the column: column `c` is of the head whose columns start at `c / 128 * 128`. -/
def heads {a : ℕ} (q : Mat a 512) (kv : Mat 256 1024) : Mat a 512 := fun i =>
  attend q kv (i 0) ((i 1).val / 128 * 128) (by have : (i 1).val < 512 := (i 1).isLt; omega) ⟨(i 1).val % 128, Nat.mod_lt _ (by decide)⟩

/-- A head's column, by the head's first column `b`. -/
theorem heads_eq {a : ℕ} (q : Mat a 512) (kv : Mat 256 1024) (y : (⟨2, ![a, 512]⟩ : Shape).Idx) (b : ℕ) (hb : b + 128 ≤ 512)
    (l : Fin 128) (h : b % 128 = 0) (e : (y 1).val = b + l.val) : heads q kv y = attend q kv (y 0) b hb l := by
  have h1 : (y 1).val / 128 * 128 = b := by have := l.isLt; omega
  have h2 : (⟨(y 1).val % 128, Nat.mod_lt _ (by decide)⟩ : Fin 128) = l := Fin.ext (by have := l.isLt; dsimp only; omega)
  unfold heads
  rw [h2]
  congr 1

/-- The stream `h` plus the output projection of what the heads read. -/
def cross {a : ℕ} (h : Mat a 2048) (o : Mat a 512) (w : Mat 512 2048) : Mat a 2048 := fun i =>
  h i + ∑ c : Fin 512, o (ix2 (i 0) c) * w (ix2 c (i 1))

/-- The stream after the branches' gated sum and the output projection. -/
theorem pay2_eq (v0 v2 : Mat 512 2048) (v4 : Mat 512 1024) (v5 : Mat 1024 2048) (v9 : Mat 512 1024) (v10 : Mat 1024 2048)
    (v15 : Mat 512 2048) (v17 : Mat 2048 2048) :
    k0_pay2 (F := Ideal) v0 v2 v4 v5 v9 v10 v15 v17 = stream v4 v9 v0 v2 v15 v5 v10 v17 := by
  funext y
  unfold k0_pay2
  pointwise [stream]

/-- That stream over its root mean square, times the gain. -/
theorem pay3_eq (v0 v2 : Mat 512 2048) (v4 : Mat 512 1024) (v5 : Mat 1024 2048) (v9 : Mat 512 1024) (v10 : Mat 1024 2048)
    (v15 : Mat 512 2048) (v17 : Mat 2048 2048) (v31 : Mat 1 2048) :
    k0_pay3 (F := Ideal) v0 v2 v4 v5 v9 v10 v15 v17 v31
      = fun y => rms (stream v4 v9 v0 v2 v15 v5 v10 v17) (fun k => v31 (ix2 0 k)) (y 0) (y 1) := by
  funext y
  unfold k0_pay3
  rw [pay2_eq]
  generalize stream v4 v9 v0 v2 v15 v5 v10 v17 = h
  pointwise [rms]

/-- The queries of the cross-attention. -/
theorem pay4_eq (h : Mat 512 2048) (g : Fin 2048 → EReal) (w : Mat 2048 512) :
    k0_pay4 (F := Ideal) (fun y : S512x2048.Idx => rms h g (y 0) (y 1)) w = query h g w := by
  funext y
  unfold k0_pay4
  pointwise [query]

/-- The weights of one head's rows over the memory rows, from the head's keys `K`. -/
def weights (q : Mat 512 512) (K : Mat 256 128) (b : ℕ) (hb : b + 128 ≤ 512) : Mat 512 256 := fun i =>
  soft (fun j => (∑ d : Fin 128, q (ix2 (i 0) ⟨b + d.val, by omega⟩) * K (ix2 j d)) * Ideal.ofBits FTy.f32 1035273459#32) (i 1)

/-- One head's reading, the head's keys `K` and values `V` apart. -/
def headOf (q : Mat 512 512) (K V : Mat 256 128) (b : ℕ) (hb : b + 128 ≤ 512) (r : Fin 512) (l : Fin 128) : EReal :=
  ∑ j : Fin 256, weights q K b hb (ix2 r j) * V (ix2 j l)

/-- With the head's columns of the memory for keys and values it is what the head reads. -/
theorem headOf_eq (q : Mat 512 512) (K V : Mat 256 128) (kv : Mat 256 1024) (b : ℕ) (hb : b + 128 ≤ 512) (r : Fin 512) (l : Fin 128)
    (hK : ∀ (j : Fin 256) (d : Fin 128), K (ix2 j d) = kv (ix2 j ⟨b + d.val, by omega⟩))
    (hV : ∀ (j : Fin 256) (d : Fin 128), V (ix2 j d) = kv (ix2 j ⟨512 + b + d.val, by omega⟩)) :
    headOf q K V b hb r l = attend q kv r b hb l := by
  unfold headOf weights attend score
  simp only [hK, hV]
  rfl

/-- The output of the first head of the cross-attention. -/
theorem pay5_eq (v34 : Mat 512 2048) (v36 : Mat 2048 512) (v41 v55 : Mat 256 128) :
    k0_pay5 (F := Ideal) v34 v36 v41 v55
      = fun y => headOf (k0_pay4 (F := Ideal) v34 v36) v41 v55 0 (by decide) (y 0) (y 1) := by
  funext y
  unfold k0_pay5
  generalize k0_pay4 (F := Ideal) v34 v36 = q
  pointwise [headOf, weights, soft, zero_add]

/-- The weights of the second head of the cross-attention. -/
theorem pay6_eq (v34 : Mat 512 2048) (v36 : Mat 2048 512) (v59 : Mat 256 128) :
    k0_pay6 (F := Ideal) v34 v36 v59 = weights (k0_pay4 (F := Ideal) v34 v36) v59 128 (by decide) := by
  funext y
  unfold k0_pay6
  generalize k0_pay4 (F := Ideal) v34 v36 = q
  pointwise [weights, soft]

/-- The four heads side by side: the first as handed over, the second from its weights, the others from their keys and
    values. -/
theorem pay7_eq (q : Mat 512 512) (v56 : Mat 512 128) (v72 : Mat 512 256) (v73 v77 v91 v95 v109 : Mat 256 128) (y : S512x512.Idx) :
    k0_pay7 (F := Ideal) q v56 v72 v73 (constant S512x128 .f32 0x00000000#32) v77 v91 v95 v109 y =
      if h : (y 1).val < 128 then v56 (ix2 (y 0) ⟨(y 1).val, h⟩)
      else if h1 : (y 1).val - 128 < 128 then
        ∑ x : Fin 256, v72 (ix2 (y 0) x) * v73 (ix2 x ⟨(y 1).val - 128, h1⟩)
      else if h2 : (y 1).val - 128 - 128 < 128 then
        headOf q v77 v91 256 (by decide) (y 0) ⟨(y 1).val - 128 - 128, h2⟩
      else headOf q v95 v109 384 (by decide) (y 0)
        ⟨(y 1).val - 128 - 128 - 128, by have : (y 1).val < 512 := (y 1).isLt; omega⟩ := by
  unfold k0_pay7
  pointwise [headOf, weights, soft]

/-- What the kernel reads from the memory, head after head, side by side. -/
theorem heads_at (v34 : Mat 512 2048) (w : Mat 2048 512) (q : Mat 512 512) (hq : k0_pay4 (F := Ideal) v34 w = q) (kv : Vec Ideal S256x1024 .bf16) :
    k0_pay7 (F := Ideal) q (k0_pay5 v34 w (View.ld kv r0_8) (View.ld kv r0_9)) (k0_pay6 v34 w (View.ld kv r0_10))
      (View.ld kv r0_11) (constant S512x128 .f32 0x00000000#32) (View.ld kv r0_12) (View.ld kv r0_13) (View.ld kv r0_14)
      (View.ld kv r0_15) = heads q kv := by
  funext y
  rw [pay7_eq, pay5_eq, pay6_eq, hq]
  have hy : (y 1).val < 512 := (y 1).isLt
  have e0 : ∀ l : Fin 128, headOf q (View.ld kv r0_8) (View.ld kv r0_9) 0 (by decide) (y 0) l = attend q kv (y 0) 0 (by decide) l :=
    fun l => headOf_eq _ _ _ _ _ _ _ _ (fun j d => by pointwise) (fun j d => by pointwise)
  have e1 : ∀ l : Fin 128, headOf q (View.ld kv r0_10) (View.ld kv r0_11) 128 (by decide) (y 0) l = attend q kv (y 0) 128 (by decide) l :=
    fun l => headOf_eq _ _ _ _ _ _ _ _ (fun j d => by pointwise) (fun j d => by pointwise)
  have e2 : ∀ l : Fin 128, headOf q (View.ld kv r0_12) (View.ld kv r0_13) 256 (by decide) (y 0) l = attend q kv (y 0) 256 (by decide) l :=
    fun l => headOf_eq _ _ _ _ _ _ _ _ (fun j d => by pointwise) (fun j d => by pointwise)
  have e3 : ∀ l : Fin 128, headOf q (View.ld kv r0_14) (View.ld kv r0_15) 384 (by decide) (y 0) l = attend q kv (y 0) 384 (by decide) l :=
    fun l => headOf_eq _ _ _ _ _ _ _ _ (fun j d => by pointwise) (fun j d => by pointwise)
  by_cases h0 : (y 1).val < 128
  · rw [dif_pos h0]
    exact (e0 _).trans (heads_eq q kv y 0 (by decide) ⟨(y 1).val, h0⟩ rfl (Nat.zero_add _).symm).symm
  rw [dif_neg h0]
  by_cases h1 : (y 1).val - 128 < 128
  · rw [dif_pos h1]
    have h := heads_eq q kv y 128 (by decide) ⟨(y 1).val - 128, h1⟩ rfl (by dsimp only; omega)
    exact (e1 _).trans h.symm
  rw [dif_neg h1]
  by_cases h2 : (y 1).val - 128 - 128 < 128
  · rw [dif_pos h2]
    have h := heads_eq q kv y 256 (by decide) ⟨(y 1).val - 128 - 128, h2⟩ rfl (by dsimp only; omega)
    exact (e2 _).trans h.symm
  · rw [dif_neg h2]
    have h := heads_eq q kv y 384 (by decide) ⟨(y 1).val - 128 - 128 - 128, by omega⟩ rfl (by dsimp only; omega)
    exact (e3 _).trans h.symm

/-- What a point leaves, from the blocks it reads. -/
theorem out_eq (x0 x1 : Mat 512 1024) (x2 : Vec Ideal S512x4096 .bf16) (x3 : Mat 512 2048) (x4 x5 : Mat 1024 2048) (x6 : Mat 2048 2048)
    (x7 : Mat 1 2048) (x8 : Mat 2048 512) (x9 : Mat 256 1024) (x10 : Mat 512 2048) :
    out0_11 (F := Ideal) x0 x1 x2 x3 x4 x5 x6 x7 x8 x9 x10 =
      cross (stream x0 x1 (half 0 (by decide) x2) (half 2048 (by decide) x2) x3 x4 x5 x6)
        (heads (query (stream x0 x1 (half 0 (by decide) x2) (half 2048 (by decide) x2) x3 x4 x5 x6) (fun k => x7 (ix2 0 k)) x8) x9) x10 := by
  funext y
  unfold out0_11 k0_pay8
  frame_out
  have e0 : View.ld x2 r0_0 = half 0 (by decide) x2 := by
    funext y
    pointwise [half]
  have e1 : View.ld x2 r0_1 = half 2048 (by decide) x2 := by
    funext y
    pointwise [half]
  rw [e0, e1, pay2_eq, pay3_eq]
  generalize stream x0 x1 (half 0 _ x2) (half 2048 _ x2) x3 x4 x5 x6 = h
  have hq := pay4_eq h (fun k => x7 (ix2 0 k)) x8
  rw [heads_at _ _ _ rfl, hq]
  generalize heads _ x9 = o
  unfold k0_pay1
  pointwise [cross]

/-- The stream after the two branches and the cross-attention, from all the operands. -/
def post {a : ℕ} (ya yb : Mat a 1024) (pg : Mat a 4096) (x : Mat a 2048) (wa wb : Mat 1024 2048) (wo : Mat 2048 2048)
    (g : Fin 2048 → EReal) (wq : Mat 2048 512) (kv : Mat 256 1024) (w : Mat 512 2048) : Mat a 2048 :=
  cross (stream ya yb (half 0 (by decide) pg) (half 2048 (by decide) pg) x wa wb wo)
    (heads (query (stream ya yb (half 0 (by decide) pg) (half 2048 (by decide) pg) x wa wb wo) g wq) kv) w

/-- A row of it depends on the row's operands only: two rows with the same operands are the same. -/
theorem post_congr {a b : ℕ} {ya yb : Mat a 1024} {pg : Mat a 4096} {x : Mat a 2048} {ya' yb' : Mat b 1024} {pg' : Mat b 4096}
    {x' : Mat b 2048} {wa wb : Mat 1024 2048} {wo : Mat 2048 2048} {g g' : Fin 2048 → EReal} {wq : Mat 2048 512}
    {kv : Mat 256 1024} {w : Mat 512 2048} {r : Fin a} {s : Fin b}
    (hya : ∀ k, ya (ix2 r k) = ya' (ix2 s k)) (hyb : ∀ k, yb (ix2 r k) = yb' (ix2 s k))
    (hpg : ∀ k, pg (ix2 r k) = pg' (ix2 s k)) (hx : ∀ k, x (ix2 r k) = x' (ix2 s k)) (hg : ∀ k, g k = g' k) (k : Fin 2048) :
    post ya yb pg x wa wb wo g wq kv w (ix2 r k) = post ya' yb' pg' x' wa wb wo g' wq kv w (ix2 s k) := by
  have hs : ∀ k, stream ya yb (half 0 (by decide) pg) (half 2048 (by decide) pg) x wa wb wo (ix2 r k)
      = stream ya' yb' (half 0 (by decide) pg') (half 2048 (by decide) pg') x' wa wb wo (ix2 s k) := fun k => by
    show x (ix2 r k) + ∑ j : Fin 2048, (pg (ix2 r _) * ∑ l : Fin 1024, ya (ix2 r l) * wa (ix2 l j)
      + pg (ix2 r _) * ∑ l : Fin 1024, yb (ix2 r l) * wb (ix2 l j)) * wo (ix2 j k) = _
    simp only [hya, hyb, hpg, hx]
    rfl
  unfold post
  generalize stream ya yb (half 0 _ pg) (half 2048 _ pg) x wa wb wo = h at hs ⊢
  generalize stream ya' yb' (half 0 _ pg') (half 2048 _ pg') x' wa wb wo = h' at hs ⊢
  have hq : ∀ c, query h g wq (ix2 r c) = query h' g' wq (ix2 s c) := fun c =>
    Finset.sum_congr rfl fun k _ => congrArg (· * _) (rms_congr hs hg k)
  generalize query h g wq = q at hq ⊢
  generalize query h' g' wq = q' at hq ⊢
  have ho : ∀ c, heads q kv (ix2 r c) = heads q' kv (ix2 s c) := fun c => by
    show attend q kv r _ _ _ = attend q' kv s _ _ _
    unfold attend score
    simp only [hq]
    rfl
  show h (ix2 r k) + ∑ c : Fin 512, heads q kv (ix2 r c) * w (ix2 c k) = h' (ix2 s k) + ∑ c : Fin 512, heads q' kv (ix2 s c) * w (ix2 c k)
  simp only [hs, ho]

variable (m : (ℓ : Loc nD τ sig) → Buf (Elt Ideal) ℓ)

/-- The launched output of the first branch. -/
abbrev argA (c : Dev nD) : Mat 8192 1024 := m ((c : Thread nD τ).loc main_arg0)
/-- The launched output of the second branch. -/
abbrev argB (c : Dev nD) : Mat 8192 1024 := m ((c : Thread nD τ).loc main_arg1)
/-- The launched gates. -/
abbrev argP (c : Dev nD) : Mat 8192 4096 := m ((c : Thread nD τ).loc main_arg2)
/-- The launched stream. -/
abbrev argX (c : Dev nD) : Mat 8192 2048 := m ((c : Thread nD τ).loc main_arg3)
/-- The launched weights of the first branch's projection. -/
abbrev argWa (c : Dev nD) : Stack 1 1024 2048 := m ((c : Thread nD τ).loc main_arg4)
/-- The launched weights of the second branch's projection. -/
abbrev argWb (c : Dev nD) : Stack 1 1024 2048 := m ((c : Thread nD τ).loc main_arg5)
/-- The launched weights of the output projection. -/
abbrev argWo (c : Dev nD) : Stack 1 2048 2048 := m ((c : Thread nD τ).loc main_arg6)
/-- The launched gains. -/
abbrev argG (c : Dev nD) : Mat 1 2048 := m ((c : Thread nD τ).loc main_arg7)
/-- The launched query weights. -/
abbrev argWq (c : Dev nD) : Stack 1 2048 512 := m ((c : Thread nD τ).loc main_arg8)
/-- The launched keys and values of the memory. -/
abbrev argKv (c : Dev nD) : Mat 256 1024 := m ((c : Thread nD τ).loc main_arg9)
/-- The launched weights of the attention's output projection. -/
abbrev argW (c : Dev nD) : Stack 1 512 2048 := m ((c : Thread nD τ).loc main_arg10)

/-- The place of window 0 at a point of the grid. -/
theorem idx0 : ∀ t : Fin cfg0.N, win0_0.index t = ![t.val, 0] :=
  (by decide +kernel : ∀ t : Fin grid0.N, win0_0.index t = ![t.val, 0])
/-- The place of window 1 at a point of the grid. -/
theorem idx1 : ∀ t : Fin cfg0.N, win0_1.index t = ![t.val, 0] :=
  (by decide +kernel : ∀ t : Fin grid0.N, win0_1.index t = ![t.val, 0])
/-- The place of window 2 at a point of the grid. -/
theorem idx2 : ∀ t : Fin cfg0.N, win0_2.index t = ![t.val, 0] :=
  (by decide +kernel : ∀ t : Fin grid0.N, win0_2.index t = ![t.val, 0])
/-- The place of window 3 at a point of the grid. -/
theorem idx3 : ∀ t : Fin cfg0.N, win0_3.index t = ![t.val, 0] :=
  (by decide +kernel : ∀ t : Fin grid0.N, win0_3.index t = ![t.val, 0])
/-- The place of window 11 at a point of the grid. -/
theorem idx11 : ∀ t : Fin cfg0.N, win0_11.index t = ![t.val, 0] :=
  (by decide +kernel : ∀ t : Fin grid0.N, win0_11.index t = ![t.val, 0])
/-- The place of window 4 at a point of the grid. -/
theorem idx4 : ∀ t : Fin cfg0.N, win0_4.index t = ![0, 0] :=
  (by decide +kernel : ∀ t : Fin grid0.N, win0_4.index t = ![0, 0])
/-- The place of window 5 at a point of the grid. -/
theorem idx5 : ∀ t : Fin cfg0.N, win0_5.index t = ![0, 0] :=
  (by decide +kernel : ∀ t : Fin grid0.N, win0_5.index t = ![0, 0])
/-- The place of window 6 at a point of the grid. -/
theorem idx6 : ∀ t : Fin cfg0.N, win0_6.index t = ![0, 0] :=
  (by decide +kernel : ∀ t : Fin grid0.N, win0_6.index t = ![0, 0])
/-- The place of window 7 at a point of the grid. -/
theorem idx7 : ∀ t : Fin cfg0.N, win0_7.index t = ![0, 0] :=
  (by decide +kernel : ∀ t : Fin grid0.N, win0_7.index t = ![0, 0])
/-- The place of window 8 at a point of the grid. -/
theorem idx8 : ∀ t : Fin cfg0.N, win0_8.index t = ![0, 0] :=
  (by decide +kernel : ∀ t : Fin grid0.N, win0_8.index t = ![0, 0])
/-- The place of window 9 at a point of the grid. -/
theorem idx9 : ∀ t : Fin cfg0.N, win0_9.index t = ![0, 0] :=
  (by decide +kernel : ∀ t : Fin grid0.N, win0_9.index t = ![0, 0])
/-- The place of window 10 at a point of the grid. -/
theorem idx10 : ∀ t : Fin cfg0.N, win0_10.index t = ![0, 0] :=
  (by decide +kernel : ∀ t : Fin grid0.N, win0_10.index t = ![0, 0])

/-- Row `r` of a point's block of the first branch's output is row `512 · (the point) + r`. -/
theorem in0_at (c : Dev nD) (t : Fin cfg0.N) (r : Fin 512) (k : Fin 1024) (row : Fin 8192)
    (hr : row.val = 512 * t.val + r.val) : (iblk m c 0 t : Mat 512 1024) (ix2 r k) = argA m c (ix2 row k) := by
  refine Eq.trans (congrArg (V m c main_arg0) (funext fun a => Fin.ext ?_)) (congrFun (V_main_arg0 m c) _)
  have e := idx0 t
  match a with
  | ⟨0, _⟩ =>
    show win0_0.index t 0 * 512 + 1 * r.val = row.val
    rw [e, hr]; show t.val * 512 + 1 * r.val = _; omega
  | ⟨1, _⟩ =>
    show win0_0.index t 1 * 1024 + 1 * k.val = k.val
    rw [e]; show 0 * 1024 + 1 * k.val = _; omega

/-- Row `r` of a point's block of the second branch's output is row `512 · (the point) + r`. -/
theorem in1_at (c : Dev nD) (t : Fin cfg0.N) (r : Fin 512) (k : Fin 1024) (row : Fin 8192)
    (hr : row.val = 512 * t.val + r.val) : (iblk m c 1 t : Mat 512 1024) (ix2 r k) = argB m c (ix2 row k) := by
  refine Eq.trans (congrArg (V m c main_arg1) (funext fun a => Fin.ext ?_)) (congrFun (V_main_arg1 m c) _)
  have e := idx1 t
  match a with
  | ⟨0, _⟩ =>
    show win0_1.index t 0 * 512 + 1 * r.val = row.val
    rw [e, hr]; show t.val * 512 + 1 * r.val = _; omega
  | ⟨1, _⟩ =>
    show win0_1.index t 1 * 1024 + 1 * k.val = k.val
    rw [e]; show 0 * 1024 + 1 * k.val = _; omega

/-- Row `r` of a point's block of the gates is row `512 · (the point) + r`. -/
theorem in2_at (c : Dev nD) (t : Fin cfg0.N) (r : Fin 512) (k : Fin 4096) (row : Fin 8192)
    (hr : row.val = 512 * t.val + r.val) : (iblk m c 2 t : Mat 512 4096) (ix2 r k) = argP m c (ix2 row k) := by
  refine Eq.trans (congrArg (V m c main_arg2) (funext fun a => Fin.ext ?_)) (congrFun (V_main_arg2 m c) _)
  have e := idx2 t
  match a with
  | ⟨0, _⟩ =>
    show win0_2.index t 0 * 512 + 1 * r.val = row.val
    rw [e, hr]; show t.val * 512 + 1 * r.val = _; omega
  | ⟨1, _⟩ =>
    show win0_2.index t 1 * 4096 + 1 * k.val = k.val
    rw [e]; show 0 * 4096 + 1 * k.val = _; omega

/-- Row `r` of a point's block of the stream is row `512 · (the point) + r`. -/
theorem in3_at (c : Dev nD) (t : Fin cfg0.N) (r : Fin 512) (k : Fin 2048) (row : Fin 8192)
    (hr : row.val = 512 * t.val + r.val) : (iblk m c 3 t : Mat 512 2048) (ix2 r k) = argX m c (ix2 row k) := by
  refine Eq.trans (congrArg (V m c main_arg3) (funext fun a => Fin.ext ?_)) (congrFun (V_main_arg3 m c) _)
  have e := idx3 t
  match a with
  | ⟨0, _⟩ =>
    show win0_3.index t 0 * 512 + 1 * r.val = row.val
    rw [e, hr]; show t.val * 512 + 1 * r.val = _; omega
  | ⟨1, _⟩ =>
    show win0_3.index t 1 * 2048 + 1 * k.val = k.val
    rw [e]; show 0 * 2048 + 1 * k.val = _; omega

/-- A point reads the launched weights of the first branch's projection. -/
theorem in4_eq (c : Dev nD) (t : Fin cfg0.N) : (iblk m c 4 t : Mat 1024 2048) = slab (argWa m c) := by
  funext y
  have hv : (V m c main_v1 : Mat 1024 2048) y = (slab (argWa m c)) y := by
    unfold V
    after_reads_at
    rfl
  refine Eq.trans (congrArg (V m c main_v1) (funext fun a => Fin.ext ?_)) (hv)
  have e := idx4 t
  match a with
  | ⟨0, _⟩ =>
    show win0_4.index t 0 * 1024 + 1 * (y 0).val = (y 0).val
    rw [e]; show 0 * 1024 + 1 * (y 0).val = _; omega
  | ⟨1, _⟩ =>
    show win0_4.index t 1 * 2048 + 1 * (y 1).val = (y 1).val
    rw [e]; show 0 * 2048 + 1 * (y 1).val = _; omega

/-- A point reads the launched weights of the second branch's projection. -/
theorem in5_eq (c : Dev nD) (t : Fin cfg0.N) : (iblk m c 5 t : Mat 1024 2048) = slab (argWb m c) := by
  funext y
  have hv : (V m c main_v3 : Mat 1024 2048) y = (slab (argWb m c)) y := by
    unfold V
    after_reads_at
    rfl
  refine Eq.trans (congrArg (V m c main_v3) (funext fun a => Fin.ext ?_)) (hv)
  have e := idx5 t
  match a with
  | ⟨0, _⟩ =>
    show win0_5.index t 0 * 1024 + 1 * (y 0).val = (y 0).val
    rw [e]; show 0 * 1024 + 1 * (y 0).val = _; omega
  | ⟨1, _⟩ =>
    show win0_5.index t 1 * 2048 + 1 * (y 1).val = (y 1).val
    rw [e]; show 0 * 2048 + 1 * (y 1).val = _; omega

/-- A point reads the launched weights of the output projection. -/
theorem in6_eq (c : Dev nD) (t : Fin cfg0.N) : (iblk m c 6 t : Mat 2048 2048) = slab (argWo m c) := by
  funext y
  have hv : (V m c main_v5 : Mat 2048 2048) y = (slab (argWo m c)) y := by
    unfold V
    after_reads_at
    rfl
  refine Eq.trans (congrArg (V m c main_v5) (funext fun a => Fin.ext ?_)) (hv)
  have e := idx6 t
  match a with
  | ⟨0, _⟩ =>
    show win0_6.index t 0 * 2048 + 1 * (y 0).val = (y 0).val
    rw [e]; show 0 * 2048 + 1 * (y 0).val = _; omega
  | ⟨1, _⟩ =>
    show win0_6.index t 1 * 2048 + 1 * (y 1).val = (y 1).val
    rw [e]; show 0 * 2048 + 1 * (y 1).val = _; omega

/-- A point reads the launched gains. -/
theorem in7_at (c : Dev nD) (t : Fin cfg0.N) (k : Fin 2048) : (iblk m c 7 t : Mat 1 2048) (ix2 0 k) = argG m c (ix2 0 k) := by
  have hv : (V m c main_v11 : Mat 1 2048) (ix2 0 k) = argG m c (ix2 0 k) := by
    unfold V
    after_reads_at
  refine Eq.trans (congrArg (V m c main_v11) (funext fun a => Fin.ext ?_)) hv
  have e := idx7 t
  match a with
  | ⟨0, _⟩ =>
    show win0_7.index t 0 * 1 + 1 * 0 = 0
    rw [e]; rfl
  | ⟨1, _⟩ =>
    show win0_7.index t 1 * 2048 + 1 * k.val = k.val
    rw [e]; show 0 * 2048 + 1 * k.val = _; omega

/-- A point reads the launched query weights. -/
theorem in8_eq (c : Dev nD) (t : Fin cfg0.N) : (iblk m c 8 t : Mat 2048 512) = slab (argWq m c) := by
  funext y
  have hv : (V m c main_v8 : Mat 2048 512) y = (slab (argWq m c)) y := by
    unfold V
    after_reads_at
    rfl
  refine Eq.trans (congrArg (V m c main_v8) (funext fun a => Fin.ext ?_)) (hv)
  have e := idx8 t
  match a with
  | ⟨0, _⟩ =>
    show win0_8.index t 0 * 2048 + 1 * (y 0).val = (y 0).val
    rw [e]; show 0 * 2048 + 1 * (y 0).val = _; omega
  | ⟨1, _⟩ =>
    show win0_8.index t 1 * 512 + 1 * (y 1).val = (y 1).val
    rw [e]; show 0 * 512 + 1 * (y 1).val = _; omega

/-- A point reads the launched keys and values of the memory. -/
theorem in9_eq (c : Dev nD) (t : Fin cfg0.N) : (iblk m c 9 t : Mat 256 1024) = argKv m c := by
  funext y
  refine Eq.trans (congrArg (V m c main_arg9) (funext fun a => Fin.ext ?_)) (congrFun (V_main_arg9 m c) y)
  have e := idx9 t
  match a with
  | ⟨0, _⟩ =>
    show win0_9.index t 0 * 256 + 1 * (y 0).val = (y 0).val
    rw [e]; show 0 * 256 + 1 * (y 0).val = _; omega
  | ⟨1, _⟩ =>
    show win0_9.index t 1 * 1024 + 1 * (y 1).val = (y 1).val
    rw [e]; show 0 * 1024 + 1 * (y 1).val = _; omega

/-- A point reads the launched weights of the attention's output projection. -/
theorem in10_eq (c : Dev nD) (t : Fin cfg0.N) : (iblk m c 10 t : Mat 512 2048) = slab (argW m c) := by
  funext y
  have hv : (V m c main_v10 : Mat 512 2048) y = (slab (argW m c)) y := by
    unfold V
    after_reads_at
    rfl
  refine Eq.trans (congrArg (V m c main_v10) (funext fun a => Fin.ext ?_)) (hv)
  have e := idx10 t
  match a with
  | ⟨0, _⟩ =>
    show win0_10.index t 0 * 512 + 1 * (y 0).val = (y 0).val
    rw [e]; show 0 * 512 + 1 * (y 0).val = _; omega
  | ⟨1, _⟩ =>
    show win0_10.index t 1 * 2048 + 1 * (y 1).val = (y 1).val
    rw [e]; show 0 * 2048 + 1 * (y 1).val = _; omega

/-- The result, from the launched arrays. -/
def result (ya yb : Mat 8192 1024) (pg : Mat 8192 4096) (x : Mat 8192 2048) (wa wb : Stack 1 1024 2048) (wo : Stack 1 2048 2048)
    (g : Mat 1 2048) (wq : Stack 1 2048 512) (kv : Mat 256 1024) (w : Stack 1 512 2048) : Mat 8192 2048 :=
  post ya yb pg x (slab wa) (slab wb) (slab wo) (fun k => g (ix2 0 k)) (slab wq) kv (slab w)

/-- After the run the result array holds that. -/
theorem final (c : Dev nD) : (dats m 0 c).arrAt 11 cfg0.N = result (argA m c) (argB m c) (argP m c) (argX m c) (argWa m c)
    (argWb m c) (argWo m c) (argG m c) (argWq m c) (argKv m c) (argW m c) := by
  refine (dats m 0 c).arrAt_eq_of_covers 11 _ (by decide +kernel) fun t hf y => ?_
  blk_simp
  rw [after0_11, in4_eq, in5_eq, in6_eq, in8_eq, in9_eq, in10_eq, out_eq]
  have ht : t.val < 16 := t.isLt
  have h0 : ((win0_11.blk t).view.emb y 0).val = 512 * t.val + (y 0).val := by
    show win0_11.index t 0 * 512 + 1 * (y 0).val = _
    rw [idx11 t]; show t.val * 512 + 1 * (y 0).val = _; omega
  have h1 : (y 1 : Fin 2048) = (win0_11.blk t).view.emb y 1 := Fin.ext (by
    show (y 1).val = win0_11.index t 1 * 2048 + 1 * (y 1).val
    rw [idx11 t]; show _ = 0 * 2048 + 1 * (y 1).val; omega)
  refine Eq.trans (congrArg (post (iblk m c 0 t) (iblk m c 1 t) (iblk m c 2 t) (iblk m c 3 t) (slab (argWa m c)) (slab (argWb m c))
    (slab (argWo m c)) (fun k => (iblk m c 7 t : Mat 1 2048) (ix2 0 k)) (slab (argWq m c)) (argKv m c) (slab (argW m c)))
    (eq_ix2 y)) ?_
  refine Eq.trans (post_congr (fun k => in0_at m c t _ k _ h0) (fun k => in1_at m c t _ k _ h0) (fun k => in2_at m c t _ k _ h0)
    (fun k => in3_at m c t _ k _ h0) (fun k => in7_at m c t k) _) ?_
  rw [h1]
  exact congrArg (result _ _ _ _ _ _ _ _ _ _ _) (eq_ix2 _).symm

end Cert.KernelPostIdeal.Body

end
-- ==== Proof.PostRef.lean ====
/-
  The reference of the post kernel, one stage after the other, and the claim that its result is the kernel's.
-/
module

public import proofs.«01_k».proof.Defs
public import proofs.«01_k».proof.Proof.Common
public import proofs.«01_k».proof.Proof.Post
public import proofs.«01_k».proof.Proof.Gen.ReferencePostIdeal.Run

@[expose] public section

set_option maxRecDepth 16384

noncomputable section

open Idealize.ShloMosaic Idealize.ShloMosaic.TcCoe Idealize.SL.Sem Cert.Layer

namespace Cert.ReferencePostIdeal.Body

open Cert.ReferencePostIdeal Cert.ReferencePostIdeal.Gen
open Cert.KernelPostIdeal.Body (half stream query score attend heads cross)

/-- The stream after the two branches. -/
theorem stream_eq (ya yb : FVec Ideal S8192x1024 .bf16) (pg : FVec Ideal S8192x4096 .bf16) (x : FVec Ideal S8192x2048 .f32)
    (wa wb : FVec Ideal S1x1024x2048 .f32) (wo : FVec Ideal S1x2048x2048 .f32) :
    (addf x (Host.dotGeneral dot_S8192x2048_S2048x2048_S8192x2048_1_0_0_1_n_n none (addf (mulf (extractStridedSlice
      S8192x2048 ![0, 0] (extf .f32 pg bitsLt_bf16_f32) slices_S8192x4096_S8192x2048_0_0) (Host.dotGeneral
      dot_S8192x1024_S1024x2048_S8192x2048_1_0_0_1_n_n none (extf .f32 ya bitsLt_bf16_f32) (shapeCast _ wa
      shapeCasts_S1x1024x2048_S1024x2048))) (mulf (extractStridedSlice S8192x2048 ![0, 2048] (extf .f32 pg bitsLt_bf16_f32)
      slices_S8192x4096_S8192x2048_0_2048) (Host.dotGeneral dot_S8192x1024_S1024x2048_S8192x2048_1_0_0_1_n_n none (extf .f32
      yb bitsLt_bf16_f32) (shapeCast _ wb shapeCasts_S1x1024x2048_S1024x2048)))) (shapeCast _ wo
      shapeCasts_S1x2048x2048_S2048x2048)) : FVec Ideal S8192x2048 .f32)
      = stream ya yb (half 0 (by decide) pg) (half 2048 (by decide) pg) x (slab wa) (slab wb) (slab wo) := by
  funext i
  clean_types
  pointwise [stream, half, slab]

/-- The queries. -/
theorem query_eq (h : FVec Ideal S8192x2048 .f32) (g : FVec Ideal S1x2048 .f32) (wq : FVec Ideal S1x2048x512 .f32) :
    (Host.dotGeneral dot_S8192x2048_S2048x512_S8192x512_1_0_0_1_n_n none (mulf (mulf h (broadcastInDim S8192x2048 ![0, 1]
      bcast_S8192x1_S8192x2048_0_1 (Host.rsqrt (addf (Host.divf (broadcastInDim S8192x1 ![0] bcast_S8192_S8192x1_0
      (Host.reduceAdd (mulf h h) (constant S_ .f32 0x00000000#32) reducesTo_S8192x2048_S8192_d1 h_S_)) (broadcastInDim
      S8192x1 ![] bcast_S_S8192x1 (constant S_ .f32 0x45000000#32))) (broadcastInDim S8192x1 ![] bcast_S_S8192x1 (constant
      S_ .f32 0x3727C5AC#32)))))) (broadcastInDim S8192x2048 ![0, 1] bcast_S1x2048_S8192x2048_0_1 (broadcastInDim S1x2048
      ![1] bcast_S2048_S1x2048_1 (shapeCast _ g shapeCasts_S1x2048_S2048)))) (shapeCast _ wq
      shapeCasts_S1x2048x512_S2048x512) : FVec Ideal S8192x512 .f32)
      = query h (fun k => g (ix2 0 k)) (slab wq) := by
  funext i
  clean_types
  pointwise [query, rms, slab]

/-- The scores: head `i 0`, row `i 1`, memory row `i 2`. -/
theorem score_eq (q : FVec Ideal S8192x512 .f32) (kv : FVec Ideal S256x1024 .bf16) :
    (mulf (Host.dotGeneral dot_S8192x4x128_S256x4x128_S4x8192x256_2_2_0_0_1_1 none (shapeCast _ q
      shapeCasts_S8192x512_S8192x4x128) (shapeCast _ (extractStridedSlice S256x512 ![0, 0] (extf .f32 kv bitsLt_bf16_f32)
      slices_S256x1024_S256x512_0_0) shapeCasts_S256x512_S256x4x128)) (broadcastInDim S4x8192x256 ![] bcast_S_S4x8192x256
      (constant S_ .f32 0x3DB504F3#32)) : FVec Ideal S4x8192x256 .f32)
      = fun i : S4x8192x256.Idx => score q kv (i 1) ((i 0).val * 128) (by have : (i 0).val < 4 := (i 0).isLt; omega) (i 2) := by
  funext i
  clean_types
  pointwise [score]

/-- A maximum over the last of three axes, the maximum with −∞ taken once more. -/
theorem max_rows {a b c : ℕ} {u : Shape} (s : FVec Ideal ⟨3, ![a, b, c]⟩ .f32) (dims : Fin u.rank → Fin 2)
    (hb : u.BroadcastsInDim ⟨2, ![a, b]⟩ dims) (h : (⟨3, ![a, b, c]⟩ : Shape).ReducesTo [2] ⟨2, ![a, b]⟩) (hu : 0 < u.numel) :
    (maximumf (broadcastInDim ⟨2, ![a, b]⟩ dims hb (constant u .f32 0xFF800000#32))
      (Host.reduce FloatOps.maximumf s (constant u .f32 0xFF800000#32) h hu) : FVec Ideal ⟨2, ![a, b]⟩ .f32)
      = fun i => Finset.fold max (Ideal.ofBits FTy.f32 4286578688#32) (fun j => s (ix3 (i 0) (i 1) j)) Finset.univ := by
  funext i
  refine Eq.trans ?_ (max_bot _)
  exact congrArg (max (Ideal.ofBits FTy.f32 4286578688#32)) (max_last s _ h hu i)

/-- The exponentials of the scores, a number subtracted that is the head's and row's. -/
theorem exp_eq (s : FVec Ideal S4x8192x256 .f32) (M : FVec Ideal S4x8192 .f32) :
    (Host.exp (subf s (broadcastInDim S4x8192x256 ![0, 1, 2] bcast_S4x8192x1_S4x8192x256_0_1_2
      (broadcastInDim S4x8192x1 ![0, 1] bcast_S4x8192_S4x8192x1_0_1 M))) : FVec Ideal S4x8192x256 .f32)
      = fun i : S4x8192x256.Idx => Ideal.exp (s i - M (ix2 (i 0) (i 1))) := by
  funext i
  clean_types
  pointwise

/-- Numbers over their sum in a head and row. -/
theorem div_eq (E : FVec Ideal S4x8192x256 .f32) :
    (Host.divf E (broadcastInDim S4x8192x256 ![0, 1, 2] bcast_S4x8192x1_S4x8192x256_0_1_2
      (broadcastInDim S4x8192x1 ![0, 1] bcast_S4x8192_S4x8192x1_0_1 (Host.reduceAdd E (constant S_ .f32 0x00000000#32)
      reducesTo_S4x8192x256_S4x8192_d2 h_S_))) : FVec Ideal S4x8192x256 .f32)
      = fun i : S4x8192x256.Idx => Ideal.div (E i) (∑ j, E (ix3 (i 0) (i 1) j)) := by
  funext i
  clean_types
  pointwise

/-- What the heads read from the memory. -/
theorem heads_eq (q : FVec Ideal S8192x512 .f32) (kv : FVec Ideal S256x1024 .bf16) (P : FVec Ideal S4x8192x256 .f32)
    (hP : ∀ a r j, P (ix3 a r j) = soft (score q kv r (a.val * 128) (by omega)) j) :
    (shapeCast _ (transpose S8192x4x128 [2, 0, 1] (Host.dotGeneral dot_S256x4x128_S4x8192x256_S4x128x8192_0_2_2_1_1_0 none
      (shapeCast _ (extractStridedSlice S256x512 ![0, 512] (extf .f32 kv bitsLt_bf16_f32) slices_S256x1024_S256x512_0_512)
      shapeCasts_S256x512_S256x4x128) P) transposes_S4x128x8192_S8192x4x128_2_0_1) shapeCasts_S8192x4x128_S8192x512 : FVec Ideal S8192x512 .f32)
      = heads q kv := by
  funext i
  clean_types
  pointwise
  unfold heads attend
  refine Fin.sum_fin_congr fun j => ?_
  refine (congrArg (kv _ * ·) (hP ⟨(i 1).val / 128, by have : (i 1).val < 512 := (i 1).isLt; omega⟩ (i 0) j)).trans
    ((mul_comm _ _).trans (congrArg (_ * ·) (congrArg kv (congrArg (ix2 j) (Fin.ext ?_)))))
  show 512 + (i 1).val = 512 + (i 1).val / 128 * 128 + (i 1).val % 128
  omega

/-- The stream after the cross-attention. -/
theorem cross_eq (h : FVec Ideal S8192x2048 .f32) (o : FVec Ideal S8192x512 .f32) (w : FVec Ideal S1x512x2048 .f32) :
    (addf h (Host.dotGeneral dot_S8192x512_S512x2048_S8192x2048_1_0_0_1_n_n none o (shapeCast _ w
      shapeCasts_S1x512x2048_S512x2048)) : FVec Ideal S8192x2048 .f32)
      = cross h o (slab w) := by
  funext i
  clean_types
  pointwise [cross, slab]

/-- The call with the host code before it and the reference end with equal results, whatever the arguments. -/
theorem algebraic : algebraic_KernelPostIdeal_ReferencePostIdeal := by
  intro m g m' g' _ hagree
  refine ⟨fun c => Cert.KernelPostIdeal.Body.result (Cert.KernelPostIdeal.Body.argA m c) (Cert.KernelPostIdeal.Body.argB m c)
    (Cert.KernelPostIdeal.Body.argP m c) (Cert.KernelPostIdeal.Body.argX m c) (Cert.KernelPostIdeal.Body.argWa m c)
    (Cert.KernelPostIdeal.Body.argWb m c) (Cert.KernelPostIdeal.Body.argWo m c) (Cert.KernelPostIdeal.Body.argG m c)
    (Cert.KernelPostIdeal.Body.argWq m c) (Cert.KernelPostIdeal.Body.argKv m c) (Cert.KernelPostIdeal.Body.argW m c), ?_, ?_⟩
  · exact (θ_run _ _ _).mono (fun r h c => ⟨(h c).1.trans (Cert.KernelPostIdeal.Body.final m c), (h c).2⟩)
      (Cert.KernelPostIdeal.Value.run_blocks m g)
  · refine (θ_run Cert.ReferencePostIdeal.defs _ _).mono (fun r h c => ⟨(h c).1.trans ?_, (h c).2⟩)
      (Cert.ReferencePostIdeal.Value.run m' g')
    unfold Cert.ReferencePostIdeal.Value.res_main_v56
    obtain ⟨h0, h1, h2, h3, h4, h5, h6, h7, h8, h9, h10⟩ := hagree c
    rw [h0, h1, h2, h3, h4, h5, h6, h7, h8, h9, h10]
    rw [stream_eq, query_eq, score_eq, max_rows (a := 4) (b := 8192) (c := 256), exp_eq, div_eq, heads_eq _ _ _ (fun _ _ _ => rfl), cross_eq]
    rfl

end Cert.ReferencePostIdeal.Body

end
-- ==== Proof.Norm.lean ====
/-
  The input's normalization: its value at every index, and the claim that it is the reference's.
-/
module

public import proofs.«01_k».proof.Defs
public import proofs.«01_k».proof.Proof.Common
public import proofs.«01_k».proof.Proof.Gen.KernelNormIdeal.Value
public import proofs.«01_k».proof.Proof.Gen.ReferenceNormIdeal.Run

@[expose] public section

set_option maxRecDepth 16384

noncomputable section

open Idealize.ShloMosaic Idealize.ShloMosaic.TcCoe Idealize.SL.Sem Cert.Layer

namespace Cert.KernelNormIdeal.Body

open Cert.KernelNormIdeal Cert.KernelNormIdeal.Gen

/-- What a point leaves, from the blocks it reads. -/
theorem out_eq (x0 : Mat 512 2048) (x1 : Mat 1 2048) :
    out0_2 (F := Ideal) x0 x1 = fun y => rms x0 (fun k => x1 (ix2 0 k)) (y 0) (y 1) := by
  funext y
  unfold out0_2
  frame_out
  unfold_payloads
  pointwise [rms]

variable (m : (ℓ : Loc nD τ sig) → Buf (Elt Ideal) ℓ)

/-- The launched rows. -/
abbrev argX (c : Dev nD) : Mat 8192 2048 := m ((c : Thread nD τ).loc main_arg0)
/-- The launched gains. -/
abbrev argG (c : Dev nD) : Mat 1 2048 := m ((c : Thread nD τ).loc main_arg1)

/-- The place of window 0 at a point of the grid. -/
theorem idx0 : ∀ t : Fin cfg0.N, win0_0.index t = ![t.val, 0] :=
  (by decide +kernel : ∀ t : Fin grid0.N, win0_0.index t = ![t.val, 0])
/-- The place of window 1 at a point of the grid. -/
theorem idx1 : ∀ t : Fin cfg0.N, win0_1.index t = ![0, 0] :=
  (by decide +kernel : ∀ t : Fin grid0.N, win0_1.index t = ![0, 0])
/-- The place of window 2 at a point of the grid. -/
theorem idx2 : ∀ t : Fin cfg0.N, win0_2.index t = ![t.val, 0] :=
  (by decide +kernel : ∀ t : Fin grid0.N, win0_2.index t = ![t.val, 0])

/-- Row `r` of a point's row block is row `512 · (the point) + r` of the rows. -/
theorem in0_at (c : Dev nD) (t : Fin cfg0.N) (r : Fin 512) (k : Fin 2048) (row : Fin 8192)
    (hr : row.val = 512 * t.val + r.val) : (iblk m c 0 t : Mat 512 2048) (ix2 r k) = argX m c (ix2 row k) := by
  refine Eq.trans (congrArg (V m c main_arg0) (funext fun a => Fin.ext ?_)) (congrFun (V_main_arg0 m c) _)
  have e := idx0 t
  match a with
  | ⟨0, _⟩ =>
    show win0_0.index t 0 * 512 + 1 * r.val = row.val
    rw [e, hr]; show t.val * 512 + 1 * r.val = _; omega
  | ⟨1, _⟩ =>
    show win0_0.index t 1 * 2048 + 1 * k.val = k.val
    rw [e]; show 0 * 2048 + 1 * k.val = _; omega

/-- A point reads the launched gains. -/
theorem in1_at (c : Dev nD) (t : Fin cfg0.N) (k : Fin 2048) : (iblk m c 1 t : Mat 1 2048) (ix2 0 k) = argG m c (ix2 0 k) := by
  have hv : (V m c main_v1 : Mat 1 2048) (ix2 0 k) = argG m c (ix2 0 k) := by
    unfold V
    after_reads_at
  refine Eq.trans (congrArg (V m c main_v1) (funext fun a => Fin.ext ?_)) hv
  have e := idx1 t
  match a with
  | ⟨0, _⟩ =>
    show win0_1.index t 0 * 1 + 1 * 0 = 0
    rw [e]; rfl
  | ⟨1, _⟩ =>
    show win0_1.index t 1 * 2048 + 1 * k.val = k.val
    rw [e]; show 0 * 2048 + 1 * k.val = _; omega

/-- The result, from the launched arrays: the normalized rows. -/
def result (X : Mat 8192 2048) (g : Mat 1 2048) : Mat 8192 2048 := fun i => rms X (fun k => g (ix2 0 k)) (i 0) (i 1)

/-- After the run the result array holds that. -/
theorem final (c : Dev nD) : (dats m 0 c).arrAt 2 cfg0.N = result (argX m c) (argG m c) := by
  refine (dats m 0 c).arrAt_eq_of_covers 2 _ (by decide +kernel) fun t hf y => ?_
  blk_simp
  rw [after0_2, out_eq]
  have h0 : ((win0_2.blk t).view.emb y 0).val = 512 * t.val + (y 0).val := by
    show win0_2.index t 0 * 512 + 1 * (y 0).val = _
    rw [idx2 t]; show t.val * 512 + 1 * (y 0).val = _; omega
  have h1 : (y 1 : Fin 2048) = (win0_2.blk t).view.emb y 1 := Fin.ext (by
    show (y 1).val = win0_2.index t 1 * 2048 + 1 * (y 1).val
    rw [idx2 t]; show _ = 0 * 2048 + 1 * (y 1).val; omega)
  refine Eq.trans (rms_congr (fun k => in0_at m c t _ k _ h0) (fun k => in1_at m c t k) _) ?_
  rw [h1]
  rfl

/-- The call with the host code before it and the reference end with equal results, whatever the arguments. -/
theorem algebraic : algebraic_KernelNormIdeal_ReferenceNormIdeal := by
  intro m g m' g' _ hagree
  refine ⟨fun c => result (argX m c) (argG m c), ?_, ?_⟩
  · exact (θ_run _ _ _).mono (fun r h c => ⟨(h c).1.trans (final m c), (h c).2⟩) (Value.run_blocks m g)
  · refine (θ_run Cert.ReferenceNormIdeal.defs _ _).mono (fun r h c => ⟨(h c).1.trans ?_, (h c).2⟩) (Cert.ReferenceNormIdeal.Value.run m' g')
    rw [(hagree c).1, (hagree c).2]
    funext i
    clean_types
    pointwise [result, rms]

end Cert.KernelNormIdeal.Body

end
-- ==== Proof.Mem.lean ====
/-
  The memory's keys and values: their value at every index, and the claim that it is the reference's.
-/
module

public import proofs.«01_k».proof.Defs
public import proofs.«01_k».proof.Proof.Common
public import proofs.«01_k».proof.Proof.Gen.KernelMemIdeal.Value
public import proofs.«01_k».proof.Proof.Gen.ReferenceMemIdeal.Run

@[expose] public section

set_option maxRecDepth 16384

noncomputable section

open Idealize.ShloMosaic Idealize.ShloMosaic.TcCoe Idealize.SL.Sem Cert.Layer

namespace Cert.KernelMemIdeal.Body

open Cert.KernelMemIdeal Cert.KernelMemIdeal.Gen

/-- The products of the normalized rows with the weights' columns. -/
def keys (X : Mat 256 2048) (g : Mat 1 2048) (w : Mat 2048 1024) : Mat 256 1024 := fun i =>
  ∑ k : Fin 2048, rms X (fun k => g (ix2 0 k)) (i 0) k * w (ix2 k (i 1))

/-- What the point leaves, from the blocks it reads. -/
theorem out_eq (x0 : Mat 256 2048) (x1 : Mat 1 2048) (x2 : Mat 2048 1024) : out0_3 (F := Ideal) x0 x1 x2 = keys x0 x1 x2 := by
  funext y
  unfold out0_3
  frame_out
  unfold_payloads
  pointwise [keys, rms]

variable (m : (ℓ : Loc nD τ sig) → Buf (Elt Ideal) ℓ)

/-- The launched memory. -/
abbrev argX (c : Dev nD) : Mat 256 2048 := m ((c : Thread nD τ).loc main_arg0)
/-- The launched gains. -/
abbrev argG (c : Dev nD) : Mat 1 2048 := m ((c : Thread nD τ).loc main_arg1)
/-- The launched weights. -/
abbrev argW (c : Dev nD) : Stack 1 2048 1024 := m ((c : Thread nD τ).loc main_arg2)

/-- The place of window 0 at a point of the grid. -/
theorem idx0 : ∀ t : Fin cfg0.N, win0_0.index t = ![0, 0] :=
  (by decide +kernel : ∀ t : Fin grid0.N, win0_0.index t = ![0, 0])
/-- The place of window 1 at a point of the grid. -/
theorem idx1 : ∀ t : Fin cfg0.N, win0_1.index t = ![0, 0] :=
  (by decide +kernel : ∀ t : Fin grid0.N, win0_1.index t = ![0, 0])
/-- The place of window 2 at a point of the grid. -/
theorem idx2 : ∀ t : Fin cfg0.N, win0_2.index t = ![0, 0] :=
  (by decide +kernel : ∀ t : Fin grid0.N, win0_2.index t = ![0, 0])
/-- The place of window 3 at a point of the grid. -/
theorem idx3 : ∀ t : Fin cfg0.N, win0_3.index t = ![0, 0] :=
  (by decide +kernel : ∀ t : Fin grid0.N, win0_3.index t = ![0, 0])

/-- The point reads the launched memory. -/
theorem in0_eq (c : Dev nD) (t : Fin cfg0.N) : (iblk m c 0 t : Mat 256 2048) = argX m c := by
  funext y
  refine Eq.trans (congrArg (V m c main_arg0) (funext fun a => Fin.ext ?_)) (congrFun (V_main_arg0 m c) y)
  have e := idx0 t
  match a with
  | ⟨0, _⟩ =>
    show win0_0.index t 0 * 256 + 1 * (y 0).val = (y 0).val
    rw [e]; show 0 * 256 + 1 * (y 0).val = _; omega
  | ⟨1, _⟩ =>
    show win0_0.index t 1 * 2048 + 1 * (y 1).val = (y 1).val
    rw [e]; show 0 * 2048 + 1 * (y 1).val = _; omega

/-- The point reads the launched gains. -/
theorem in1_eq (c : Dev nD) (t : Fin cfg0.N) : (iblk m c 1 t : Mat 1 2048) = argG m c := by
  funext y
  have hv : ∀ z : (⟨2, ![1, 2048]⟩ : Shape).Idx, (V m c main_v3 : Mat 1 2048) z = argG m c z := by
    intro z
    rw [eq_ix2 z, Subsingleton.elim (α := Fin 1) (z 0) 0]
    unfold V
    after_reads_at
  refine Eq.trans (congrArg (V m c main_v3) (funext fun a => Fin.ext ?_)) (hv y)
  have e := idx1 t
  match a with
  | ⟨0, _⟩ =>
    show win0_1.index t 0 * 1 + 1 * (y 0).val = (y 0).val
    rw [e]; show 0 * 1 + 1 * (y 0).val = _; omega
  | ⟨1, _⟩ =>
    show win0_1.index t 1 * 2048 + 1 * (y 1).val = (y 1).val
    rw [e]; show 0 * 2048 + 1 * (y 1).val = _; omega

/-- The point reads the launched weights. -/
theorem in2_eq (c : Dev nD) (t : Fin cfg0.N) : (iblk m c 2 t : Mat 2048 1024) = slab (argW m c) := by
  funext y
  have hv : (V m c main_v2 : Mat 2048 1024) y = slab (argW m c) y := by
    unfold V
    after_reads_at
    rfl
  refine Eq.trans (congrArg (V m c main_v2) (funext fun a => Fin.ext ?_)) hv
  have e := idx2 t
  match a with
  | ⟨0, _⟩ =>
    show win0_2.index t 0 * 2048 + 1 * (y 0).val = (y 0).val
    rw [e]; show 0 * 2048 + 1 * (y 0).val = _; omega
  | ⟨1, _⟩ =>
    show win0_2.index t 1 * 1024 + 1 * (y 1).val = (y 1).val
    rw [e]; show 0 * 1024 + 1 * (y 1).val = _; omega

/-- After the run the result array holds the products with the launched weights. -/
theorem final (c : Dev nD) : (dats m 0 c).arrAt 3 cfg0.N = keys (argX m c) (argG m c) (slab (argW m c)) := by
  refine (dats m 0 c).arrAt_eq_of_covers 3 _ (by decide +kernel) fun t hf y => ?_
  blk_simp
  rw [after0_3, in0_eq, in1_eq, in2_eq, out_eq]
  refine congrArg (keys _ _ _) (funext fun a => Fin.ext ?_)
  match a with
  | ⟨0, _⟩ =>
    show (y 0).val = win0_3.index t 0 * 256 + 1 * (y 0).val
    rw [idx3 t]; show _ = 0 * 256 + 1 * (y 0).val; omega
  | ⟨1, _⟩ =>
    show (y 1).val = win0_3.index t 1 * 1024 + 1 * (y 1).val
    rw [idx3 t]; show _ = 0 * 1024 + 1 * (y 1).val; omega

/-- The call with the host code before it and the reference end with equal results, whatever the arguments. -/
theorem algebraic : algebraic_KernelMemIdeal_ReferenceMemIdeal := by
  intro m g m' g' _ hagree
  refine ⟨fun c => keys (argX m c) (argG m c) (slab (argW m c)), ?_, ?_⟩
  · exact (θ_run _ _ _).mono (fun r h c => ⟨(h c).1.trans (final m c), (h c).2⟩) (Value.run_blocks m g)
  · refine (θ_run Cert.ReferenceMemIdeal.defs _ _).mono (fun r h c => ⟨(h c).1.trans ?_, (h c).2⟩) (Cert.ReferenceMemIdeal.Value.run m' g')
    rw [(hagree c).1, (hagree c).2.1, (hagree c).2.2]
    funext i
    clean_types
    pointwise [keys, slab, rms]

end Cert.KernelMemIdeal.Body

end
-- ==== Proof.PrepUnit.lean ====
/-
  The sums over the heads that the kernel of the forgetting attention's norms and forget gates takes, and the queries and
  keys over their root mean squares.
-/
module

public import proofs.«01_k».proof.Defs
public import proofs.«01_k».proof.Proof.Common
public import proofs.«01_k».proof.Proof.Gen.KernelPrepIdeal.Value

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- The words of the kernel's floor division by 64 are the quotients' words. -/
theorem floor_word : ∀ n : Fin 128,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

/-- The test whether two lanes lie in the same head, as a number. -/
theorem same_word : ∀ a b : Fin 2, BitVec.setWidth 32 (IntOp.cmpi CmpIPredicate.eq (BitVec.ofNat 32 a.val) (BitVec.ofNat 32 b.val))
    = if a = b then 1#32 else 0#32 := by decide

/-- The matrix with which the kernel sums over the heads: ones where row and column lie in the same 64. -/
theorem ones_eq (y : (⟨2, ![128, 128]⟩ : Shape).Idx) :
    k0_pay11 (F := Ideal) k0_pay7 (iota Kind.tc S128x128 32 [1] iota_S128x128_d1_w32) (64#32) k0_pay8 k0_pay9 k0_pay10 y
      = if (y 0).val / 64 = (y 1).val / 64 then 1 else 0 := by
  unfold k0_pay11 k0_pay7 k0_pay8 k0_pay9 k0_pay10
  pointwise
  have h0 : (y 0).val < 128 := (y 0).isLt
  have h1 : (y 1).val < 128 := (y 1).isLt
  have e0 := floor_word ⟨(y 0).val, h0⟩
  have e1 := floor_word ⟨(y 1).val, h1⟩
  dsimp only at e0 e1
  rw [e0, e1, same_word ⟨(y 0).val / 64, by omega⟩ ⟨(y 1).val / 64, by omega⟩]
  simp only [Fin.mk.injEq]
  split_ifs
  · show (((1#32 : BitVec 32).toInt : ℝ) : EReal) = 1
    norm_num
  · show (((0#32 : BitVec 32).toInt : ℝ) : EReal) = 0
    norm_num

/-- An entry is the one whose coordinates are the same. -/
theorem entry_congr {a b : ℕ} (v : Mat a b) {r r' : Fin a} {k k' : Fin b} (h0 : r.val = r'.val) (h1 : k.val = k'.val) :
    v (ix2 r k) = v (ix2 r' k') := congrArg v (congrArg₂ ix2 (Fin.ext h0) (Fin.ext h1))

/-- Eight matrices stacked, at an entry. -/
theorem pieces_eq (A B C D E F G H : Mat 512 128) (y : (⟨2, ![4096, 128]⟩ : Shape).Idx) (h) :
    concatenate S4096x128 0 [⟨S512x128, A⟩, ⟨S512x128, B⟩, ⟨S512x128, C⟩, ⟨S512x128, D⟩, ⟨S512x128, E⟩, ⟨S512x128, F⟩,
      ⟨S512x128, G⟩, ⟨S512x128, H⟩] h y
      = (![A, B, C, D, E, F, G, H] : Fin 8 → Mat 512 128) ⟨(y 0).val / 512, by have h0 : (y 0).val < 4096 := (y 0).isLt; omega⟩
          (ix2 ⟨(y 0).val % 512, Nat.mod_lt _ (by decide)⟩ (y 1)) := by
  have h0 : (y 0).val < 4096 := (y 0).isLt
  have e : ∀ (P : Fin 8 → Mat 512 128) {k k' : Fin 8} {r r' : Fin 512}, k.val = k'.val → r.val = r'.val →
      P k (ix2 r (y 1)) = P k' (ix2 r' (y 1)) := fun P k k' r r' hk hr => by rw [Fin.ext hk, Fin.ext hr]
  have e' := fun (k : Fin 8) {k' : Fin 8} {r r' : Fin 512} => e ![A, B, C, D, E, F, G, H] (k := k) (k' := k') (r := r) (r' := r')
  clear e
  generalize hP : (![A, B, C, D, E, F, G, H] : Fin 8 → Mat 512 128) = P at e' ⊢
  have hA : A = P 0 := by rw [← hP]; rfl
  have hB : B = P 1 := by rw [← hP]; rfl
  have hC : C = P 2 := by rw [← hP]; rfl
  have hD : D = P 3 := by rw [← hP]; rfl
  have hE : E = P 4 := by rw [← hP]; rfl
  have hF : F = P 5 := by rw [← hP]; rfl
  have hG : G = P 6 := by rw [← hP]; rfl
  have hH : H = P 7 := by rw [← hP]; rfl
  clear hP
  pointwise
  simp only [hA, hB, hC, hD, hE, hF, hG, hH]
  split_ifs <;> exact e' _ (by simp only [Fin.val_zero, Fin.val_one, Fin.val_two, Fin.isValue, Fin.coe_ofNat_eq_mod]; omega) (by dsimp only; omega)

/-- The columns of a matrix in groups of 128. -/
theorem groups_eq (v : Mat 512 1024) (h0 h1 h2 h3 h4 h5 h6 h7) (k : Fin 8) (y : (⟨2, ![512, 128]⟩ : Shape).Idx) :
    (![extractStridedSlice S512x128 ![0, 0] v h0, extractStridedSlice S512x128 ![0, 128] v h1, extractStridedSlice S512x128 ![0, 256] v h2,
      extractStridedSlice S512x128 ![0, 384] v h3, extractStridedSlice S512x128 ![0, 512] v h4, extractStridedSlice S512x128 ![0, 640] v h5,
      extractStridedSlice S512x128 ![0, 768] v h6, extractStridedSlice S512x128 ![0, 896] v h7] : Fin 8 → Mat 512 128) k y
      = v (ix2 (y 0) ⟨128 * k.val + (y 1).val, by have h1 : (y 1).val < 128 := (y 1).isLt; omega⟩) := by
  have h1 : (y 1).val < 128 := (y 1).isLt
  match k with
  | 0 | 1 | 2 | 3 | 4 | 5 | 6 | 7 =>
    refine congrArg v (funext fun a => Fin.ext ?_)
    match a with
    | ⟨0, _⟩ => exact Nat.zero_add _
    | ⟨1, _⟩ => rfl

/-- The groups stacked. -/
theorem stack_eq (v : Mat 512 1024) (h0 h1 h2 h3 h4 h5 h6 h7 h) :
    (concatenate S4096x128 0 [⟨S512x128, extractStridedSlice S512x128 ![0, 0] v h0⟩, ⟨S512x128, extractStridedSlice S512x128 ![0, 128] v h1⟩,
      ⟨S512x128, extractStridedSlice S512x128 ![0, 256] v h2⟩, ⟨S512x128, extractStridedSlice S512x128 ![0, 384] v h3⟩,
      ⟨S512x128, extractStridedSlice S512x128 ![0, 512] v h4⟩, ⟨S512x128, extractStridedSlice S512x128 ![0, 640] v h5⟩,
      ⟨S512x128, extractStridedSlice S512x128 ![0, 768] v h6⟩, ⟨S512x128, extractStridedSlice S512x128 ![0, 896] v h7⟩] h : Mat 4096 128)
      = fun y => v (ix2 ⟨(y 0).val % 512, Nat.mod_lt _ (by decide)⟩ ⟨128 * ((y 0).val / 512) + (y 1).val, by
          have h0 : (y 0).val < 4096 := (y 0).isLt
          have h1 : (y 1).val < 128 := (y 1).isLt
          omega⟩) :=
  funext fun y => (pieces_eq _ _ _ _ _ _ _ _ y h).trans (groups_eq v h0 h1 h2 h3 h4 h5 h6 h7 _ _)

/-- The way back. -/
theorem unstack_eq (v : Mat 4096 128) (h0 h1 h2 h3 h4 h5 h6 h7 h) :
    (concatenate S512x1024 1 [⟨S512x128, extractStridedSlice S512x128 ![0, 0] v h0⟩, ⟨S512x128, extractStridedSlice S512x128 ![512, 0] v h1⟩,
      ⟨S512x128, extractStridedSlice S512x128 ![1024, 0] v h2⟩, ⟨S512x128, extractStridedSlice S512x128 ![1536, 0] v h3⟩,
      ⟨S512x128, extractStridedSlice S512x128 ![2048, 0] v h4⟩, ⟨S512x128, extractStridedSlice S512x128 ![2560, 0] v h5⟩,
      ⟨S512x128, extractStridedSlice S512x128 ![3072, 0] v h6⟩, ⟨S512x128, extractStridedSlice S512x128 ![3584, 0] v h7⟩] h : Mat 512 1024)
      = fun y => v (ix2 ⟨512 * ((y 1).val / 128) + (y 0).val, by
          have h0 : (y 0).val < 512 := (y 0).isLt
          have h1 : (y 1).val < 1024 := (y 1).isLt
          omega⟩ ⟨(y 1).val % 128, Nat.mod_lt _ (by decide)⟩) := by
  funext y
  have h0 : (y 0).val < 512 := (y 0).isLt
  have h1 : (y 1).val < 1024 := (y 1).isLt
  pointwise
  split_ifs <;>
    exact entry_congr v (by dsimp only; omega) (by dsimp only; omega)

/-- The half of a sum over 128 that the matrix of ones picks. -/
theorem half_sum (f : Fin 128 → EReal) (l : ℕ) (hl : l < 128) :
    (∑ x : Fin 128, f x * (if x.val / 64 = l / 64 then 1 else 0)) = ∑ j : Fin 64, f ⟨64 * (l / 64) + j.val, by omega⟩ := by
  have e : ∀ a : Fin 2, (∑ j : Fin 64, f ⟨64 * a.val + j.val, by omega⟩ * (if (64 * a.val + j.val) / 64 = l / 64 then 1 else 0))
      = if a.val = l / 64 then ∑ j : Fin 64, f ⟨64 * a.val + j.val, by omega⟩ else 0 := fun a => by
    split_ifs with h
    · exact Finset.sum_congr rfl fun j _ => by rw [if_pos (by omega), mul_one]
    · exact Finset.sum_eq_zero fun j _ => by rw [if_neg (by omega), mul_zero]
  have e2 : (∑ x : Fin 128, f x * (if x.val / 64 = l / 64 then 1 else 0))
      = ∑ a : Fin 2, ∑ j : Fin 64, f ⟨64 * a.val + j.val, by omega⟩ * (if (64 * a.val + j.val) / 64 = l / 64 then 1 else 0) :=

    (Fin.sum_mul_add_congr (L := 128) (S := 2) (n := 64) fun a j hl => by
      have e : (⟨a.val * 64 + j.val, hl⟩ : Fin 128) = ⟨64 * a.val + j.val, by omega⟩ := Fin.ext (by dsimp only; omega)
      rw [e]).symm
  rw [e2, Finset.sum_congr rfl fun a _ => e a]
  exact (Finset.sum_ite_eq_of_mem' Finset.univ (⟨l / 64, by omega⟩ : Fin 2) (fun a => ∑ j : Fin 64, f ⟨64 * a.val + j.val, by omega⟩) (Finset.mem_univ _)) ▸
    Finset.sum_congr rfl fun a _ => if_congr (by rw [Fin.ext_iff]) rfl rfl

/-- A real number. -/
def IsReal (z : EReal) : Prop := ∃ r : ℝ, z = (r : EReal)

/-- A real number less itself is zero. -/
theorem IsReal.sub_self {z : EReal} (h : IsReal z) : z - z = 0 := by
  obtain ⟨r, rfl⟩ := h
  rw [← EReal.coe_sub, _root_.sub_self, EReal.coe_zero]

/-- A product of real numbers is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of two real numbers is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A finite sum of real numbers is real. -/
theorem IsReal.sum {ι : Type} (s : Finset ι) {f : ι → EReal} (h : ∀ i ∈ s, IsReal (f i)) : IsReal (∑ i ∈ s, f i) :=
  Finset.sum_induction f IsReal (fun _ _ => IsReal.add) ⟨0, EReal.coe_zero.symm⟩ h

/-- Entry `k` of a row over the root mean square of its head's 64 entries (the mean raised by the constant 1e-5 as f32
    rounds it). -/
def unit64 (z : Fin 1024 → EReal) (k : Fin 1024) : EReal :=
  z k * Ideal.rsqrt ((∑ j : Fin 64, z ⟨64 * (k.val / 64) + j.val, by omega⟩ * z ⟨64 * (k.val / 64) + j.val, by omega⟩)
    * Ideal.ofBits FTy.f32 1015021568#32 + Ideal.ofBits FTy.f32 925353388#32)

/-- The square sum over a head as the kernel takes it: the rounded squares and what rounding left, each times the ones. -/
theorem unit_of_stacked (z : Fin 1024 → EReal) (hz : ∀ k, IsReal (z k)) (O : Mat 128 128)
    (hO : ∀ y, O y = if (y 0).val / 64 = (y 1).val / 64 then 1 else 0) (k : Fin 1024) (w : Fin 128 → EReal)
    (hw : ∀ x, w x = z ⟨128 * (k.val / 128) + x.val, by omega⟩) (l : Fin 128) (hl : l.val = k.val % 128) :
    z k * Ideal.rsqrt ((∑ x : Fin 128, w x * w x * O (ix2 x l) + ∑ x : Fin 128, (w x * w x - w x * w x) * O (ix2 x l))
      * Ideal.ofBits FTy.f32 1015021568#32 + Ideal.ofBits FTy.f32 925353388#32) = unit64 z k := by
  have h0 : (∑ x : Fin 128, (w x * w x - w x * w x) * O (ix2 x l)) = 0 :=
    Finset.sum_eq_zero fun x _ => by rw [hw, ((hz _).mul (hz _)).sub_self, zero_mul]
  have h1 : (∑ x : Fin 128, w x * w x * O (ix2 x l)) = ∑ x : Fin 128, w x * w x * (if x.val / 64 = l.val / 64 then 1 else 0) :=
    Finset.sum_congr rfl fun x _ => by rw [hO]; rfl
  rw [h0, add_zero, h1, half_sum (fun x => w x * w x) l.val l.isLt]
  unfold unit64
  refine congrArg (fun s => z k * Ideal.rsqrt (s * _ + _)) (Finset.sum_congr rfl fun j _ => ?_)
  have e : (⟨128 * (k.val / 128) + (64 * (l.val / 64) + j.val), by omega⟩ : Fin 1024) = ⟨64 * (k.val / 64) + j.val, by omega⟩ :=
    Fin.ext (by dsimp only; omega)
  rw [hw]
  dsimp only
  rw [e]

/-- The kernel's rows over their heads' root mean squares. -/
theorem pay12_eq (X : Mat 512 1024) (hX : ∀ y, IsReal (X y)) :
    k0_pay12 (F := Ideal) k0_pay7 (iota Kind.tc S128x128 32 [1] iota_S128x128_d1_w32) (64#32) k0_pay8 k0_pay9 k0_pay10 X
      = fun y => unit64 (fun k => X (ix2 (y 0) k)) (y 1) := by
  funext y
  have hO := ones_eq
  revert hO
  unfold k0_pay12
  generalize k0_pay11 (F := Ideal) k0_pay7 (iota Kind.tc S128x128 32 [1] iota_S128x128_d1_w32) (64#32) k0_pay8 k0_pay9 k0_pay10 = O
  intro hO
  simp only [stack_eq, unstack_eq]
  pointwise
  rw [show X y = X (ix2 (y 0) (y 1)) from congrArg X (eq_ix2 y)]
  have h0 : (y 0).val < 512 := (y 0).isLt
  refine unit_of_stacked (fun k => X (ix2 (y 0) k)) (fun k => hX _) O hO (y 1) _ (fun x => ?_) _ rfl
  exact entry_congr X (by dsimp only; omega) (by dsimp only; omega)

/-- The same for the keys, with their gain. -/
theorem pay14_eq (X : Mat 512 1024) (hX : ∀ y, IsReal (X y)) (g : Mat 1 1024) :
    k0_pay14 (F := Ideal) (k0_pay11 (F := Ideal) k0_pay7 (iota Kind.tc S128x128 32 [1] iota_S128x128_d1_w32) (64#32) k0_pay8 k0_pay9 k0_pay10) X g
      = fun y => unit64 (fun k => X (ix2 (y 0) k)) (y 1) * g (ix2 0 (y 1)) := by
  funext y
  have hO := ones_eq
  revert hO
  unfold k0_pay14
  generalize k0_pay11 (F := Ideal) k0_pay7 (iota Kind.tc S128x128 32 [1] iota_S128x128_d1_w32) (64#32) k0_pay8 k0_pay9 k0_pay10 = O
  intro hO
  simp only [stack_eq, unstack_eq]
  pointwise
  rw [show X y = X (ix2 (y 0) (y 1)) from congrArg X (eq_ix2 y)]
  have h0 : (y 0).val < 512 := (y 0).isLt
  refine congrArg (· * g (ix2 0 (y 1))) (unit_of_stacked (fun k => X (ix2 (y 0) k)) (fun k => hX _) O hO (y 1) _ (fun x => ?_) _ rfl)
  exact entry_congr X (by dsimp only; omega) (by dsimp only; omega)

end Cert.KernelPrepIdeal.Body
end
-- ==== Proof.PrepKernel.lean ====
/-
  What the kernel of the forgetting attention's norms and forget gates stores at one point of its grid.
-/
module

public import proofs.«01_k».proof.Defs
public import proofs.«01_k».proof.Proof.PrepUnit
public import proofs.«01_k».proof.Proof.Gen.KernelPrepIdeal.Value

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- Minus a real number is real. -/
theorem IsReal.neg {a : EReal} (ha : IsReal a) : IsReal (-a) := by
  obtain ⟨r, rfl⟩ := ha
  exact ⟨-r, (EReal.coe_neg r).symm⟩

/-- The greater of two real numbers is real. -/
theorem IsReal.max {a b : EReal} (ha : IsReal a) (hb : IsReal b) : IsReal (max a b) := by
  rcases le_total a b with h | h
  · rwa [max_eq_right h]
  · rwa [max_eq_left h]

/-- Zero is a real number. -/
theorem isReal_zero : IsReal 0 := ⟨0, EReal.coe_zero.symm⟩

/-- The logarithm of the logistic function of `z`, as minus the soft positive part of `-z`. -/
def logf (z : EReal) : EReal := 0 - (max (-z) 0 + Ideal.log (1 + Ideal.exp (0 - max (-z) (- -z))))

/-- The logarithm of the logistic function of a real number is real. -/
theorem IsReal.logf {z : EReal} (h : IsReal z) : IsReal (logf z) := by
  unfold Body.logf
  rw [zero_sub, zero_sub]
  refine ((h.neg.max isReal_zero).add ?_).neg
  obtain ⟨r, hr⟩ := (h.neg.max h.neg.neg).neg
  rw [hr, Ideal.exp_coe, ← EReal.coe_one, ← EReal.coe_add, Ideal.log_coe, if_neg (not_le.2 (by positivity))]
  exact ⟨_, rfl⟩

/-- The queries with their gain and the scale that makes the scores powers of two. -/
theorem pay13_eq (v : Mat 512 1024) (g : Mat 1 1024) :
    k0_pay13 (F := Ideal) v g = fun y => v y * g (ix2 0 (y 1)) * Ideal.ofBits FTy.f32 1043900987#32 := by
  funext y
  unfold k0_pay13
  pointwise

/-- The values are stored transposed. -/
theorem pay15_eq (v : Mat 512 1024) : k0_pay15 (F := Ideal) v = fun y => v (ix2 (y 1) (y 0)) := by
  funext y
  unfold k0_pay15
  pointwise

/-- A forget gate before the logarithm: the entry that the constant matrix picks, with its bias. -/
def pre (v : Mat 512 128) (w : Mat 128 128) (b : Mat 1 128) (r : Fin 512) (l : Fin 128) : EReal :=
  (∑ k : Fin 128, v (ix2 r k) * w (ix2 k l)) + b (ix2 0 l)

/-- The gates before the logistic function, negated. -/
theorem pay20_eq (v : Mat 512 128) (w : Mat 128 128) (b : Mat 1 128) (hv : ∀ y, IsReal (v y)) :
    k0_pay20 (F := Ideal) v w b = fun y => -(pre v w b (y 0) (y 1)) := by
  funext y
  unfold k0_pay20 pre
  pointwise
  simp only [(hv _).sub_self, isReal_zero.sub_self, zero_mul, Finset.sum_const_zero, add_zero]
  exact zero_sub _

/-- The word of a comparison of two rows, as a number. -/
theorem below_word (a b : Fin 512) :
    (FloatOps.sitofp (F := Ideal) FTy.f32 (BitVec.setWidth 32 (IntOp.cmpi CmpIPredicate.sge (BitVec.ofNat 32 a.val) (BitVec.ofNat 32 b.val))) : EReal)
      = if b ≤ a then 1 else 0 := by
  have ha := a.isLt
  have hb := b.isLt
  have e : IntOp.cmpi CmpIPredicate.sge (BitVec.ofNat 32 a.val) (BitVec.ofNat 32 b.val) = if b ≤ a then 1#1 else 0#1 := by
    rw [WordCmp.cmpi_sge_ofNat (by omega) (by omega)]
    by_cases h : b ≤ a
    · rw [if_pos h, decide_eq_true (by exact h)]; rfl
    · rw [if_neg h, decide_eq_false (by exact h)]; rfl
  rw [e]
  split_ifs
  · show (((1#32 : BitVec 32).toInt : ℝ) : EReal) = 1
    norm_num
  · show (((0#32 : BitVec 32).toInt : ℝ) : EReal) = 0
    norm_num

/-- The product of the triangle of ones with the logarithms as the kernel takes it: rounded, and twice what rounding left. -/
theorem running (T g : Fin 512 → EReal) (s : EReal) (hg : ∀ x, IsReal (g x)) (r : Fin 512) (hT : ∀ x, T x = if x ≤ r then 1 else 0) :
    (∑ x, T x * g x) + (∑ x, T x * (g x - g x)) + (∑ x, T x * (g x - g x - (g x - g x))) + s = (∑ x, if x ≤ r then g x else 0) + s := by
  simp only [(hg _).sub_self, isReal_zero.sub_self, mul_zero, Finset.sum_const_zero, add_zero]
  refine congrArg (· + s) (Finset.sum_congr rfl fun x _ => ?_)
  rw [hT]
  split_ifs
  · exact one_mul _
  · exact zero_mul _

/-- The sums of the logarithms of the forget gates up to each row, after the sum `s` of the rows before. -/
theorem pay23_eq (v : Mat 512 128) (w : Mat 128 128) (b : Mat 1 128) (hv : ∀ y, IsReal (v y)) (hp : ∀ r l, IsReal (pre v w b r l)) (s : Mat 1 128) :
    k0_pay23 (F := Ideal) (k0_pay21 v w b) (k0_pay22 v w b) (FloatOps.ofBits FTy.f32 1065353216#32) s
      = fun y => (∑ x : Fin 512, if x ≤ y 0 then logf (pre v w b x (y 1)) else 0) + s (ix2 0 (y 1)) := by
  funext y
  unfold k0_pay23 k0_pay21 k0_pay22
  rw [pay20_eq v w b hv]
  pointwise
  exact running _ (fun x => logf (pre v w b x (y 1))) _ (fun x => (hp x (y 1)).logf) (y 0) (fun x => below_word (y 0) x)

/-- The row that is carried on is the last row of the running sums. -/
theorem pay24_eq (a b : Mat 512 128) (o : EReal) (s : Mat 1 128) :
    k0_pay24 (F := Ideal) a b o s = fun y => k0_pay23 (F := Ideal) a b o s (ix2 ⟨511, by decide⟩ (y 1)) := by
  funext y
  unfold k0_pay24
  pointwise

/-- The tests by which the kernel tells the biases' lanes and the ones' lanes from the others. -/
theorem lane_words : ∀ l : Fin 128, IntOp.cmpi CmpIPredicate.slt (BitVec.ofNat 32 l.val) 48#32 = (if l.val < 48 then 1#1 else 0#1)
    ∧ IntOp.andi (IntOp.cmpi CmpIPredicate.sge (BitVec.ofNat 32 l.val) 48#32) (IntOp.cmpi CmpIPredicate.slt (BitVec.ofNat 32 l.val) 96#32)
      = if 48 ≤ l.val ∧ l.val < 96 then 1#1 else 0#1 := by decide +kernel

/-- The key-side lanes of the bias: in each group of three the sum, in the part whose word is zero, and what rounding left,
    which is zero; then ones, then zeros. -/
theorem pay29_eq (p : Vec Ideal S1x128 .i32) (v : Mat 512 128) (hv : ∀ y, IsReal (v y)) :
    k0_pay29 (F := Ideal) (k0_pay25 p) k0_pay26 k0_pay27 v = fun y =>
      if (y 1).val < 48 then (if p (ix2 0 (y 1)) = 0#32 then v y else 0) else if (y 1).val < 96 then 1 else 0 := by
  funext y
  unfold k0_pay29 k0_pay25 k0_pay26 k0_pay27
  pointwise
  have h1 : (y 1).val < 128 := (y 1).isLt
  obtain ⟨e1, e2⟩ := lane_words ⟨(y 1).val, h1⟩
  dsimp only at e1 e2
  rw [e1, e2, (hv y).sub_self, isReal_zero.sub_self]
  by_cases a : (y 1).val < 48
  · rw [if_pos a, if_pos a, ValueIdx.select_one]
    by_cases b : p (ix2 0 (y 1)) = 0#32
    · rw [if_pos b, IntOp.cmpi_eq.2 b, ValueIdx.select_one]
    · rw [if_neg b, ValueIdx.eq_zero_of_ne_one fun h => b (IntOp.cmpi_eq.1 h), ValueIdx.select_zero]
      exact Scalar.select_same _ _
  · rw [if_neg a, if_neg a, ValueIdx.select_zero]
    by_cases b : (y 1).val < 96
    · rw [if_pos ⟨by omega, b⟩, if_pos b, ValueIdx.select_one]
    · rw [if_neg fun h => b h.2, if_neg b, ValueIdx.select_zero]

end Cert.KernelPrepIdeal.Body
end
-- ==== Proof.PrepSel.lean ====
/-
  The constant matrix with which the kernel copies the sixteen forget gates into its lanes.
-/
module

public import proofs.«01_k».proof.Defs
public import proofs.«01_k».proof.Proof.Common

@[expose] public section

set_option maxRecDepth 16384

noncomputable section

open Idealize.ShloMosaic Idealize.ShloMosaic.TcCoe Idealize.SL.Sem Cert.Layer

namespace Cert.KernelPrepIdeal.Body

open Cert.KernelPrepIdeal

/-- Ones where the lane, in one of the two groups of 48, belongs to the head of the row. -/
theorem lit_eq : ∀ k l : Fin 128, lit1 ⟨128 * k.val + l.val, by omega⟩ = if l.val < 96 ∧ l.val % 48 / 3 = k.val then 0x3F80#16 else 0#16 := by
  decide +kernel

end Cert.KernelPrepIdeal.Body

end
-- ==== Proof.Cumsum.lean ====
/-
  The running sum down the rows of a matrix of extended reals, read at an entry.
-/
module

public import proofs.«01_k».proof.Proof.Common
public import Idealize.ShloMosaic.Lib.Routing.OpsOne

@[expose] public section

noncomputable section

open Idealize.ShloMosaic Idealize.ShloMosaic.Routing

namespace Cert.Layer

/-- A left fold of additions is the first value plus the sum. -/
theorem foldl_add {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- The sum of the entries that a window reaches which ends at row `j` is the sum of the entries up to `j`. -/
theorem sum_window {R : ℕ} (f : ℕ → EReal) (j : Fin (R + 1)) :
    (∑ n : Fin (R + 1), if R ≤ j.val + n.val then f (j.val + n.val - R) else 0) = ∑ i : Fin (R + 1), if i ≤ j then f i.val else 0 := by
  have hj := j.isLt
  rw [← Finset.sum_filter, ← Finset.sum_filter]
  refine Finset.sum_bij' (fun n hn => ⟨j.val + n.val - R, ?_⟩) (fun i hi => ⟨i.val + R - j.val, ?_⟩) ?_ ?_ ?_ ?_ ?_
  · have := n.isLt; omega
  · have := (Finset.mem_filter.1 hi).2; rw [Fin.le_def] at this; omega
  · intro n hn
    have := n.isLt
    simp only [Finset.mem_filter, Finset.mem_univ, true_and, Fin.le_def] at hn ⊢
    omega
  · intro n hn
    simp only [Finset.mem_filter, Finset.mem_univ, true_and, Fin.le_def] at hn ⊢
    omega
  · intro n hn
    simp only [Finset.mem_filter, Finset.mem_univ, true_and, Fin.le_def] at hn
    exact Fin.ext (by dsimp only; omega)
  · intro n hn
    simp only [Finset.mem_filter, Finset.mem_univ, true_and, Fin.le_def] at hn
    exact Fin.ext (by dsimp only; omega)
  · intro n hn
    rfl

/-- Entry `(j, c)` of the running sum down the rows is the sum of column `c` up to and including row `j`. -/
theorem running_sum {R C : ℕ} (x : Mat (R + 1) C) (init : EReal) (hinit : init = 0)
    (h : (⟨2, ![R + 1, C]⟩ : Shape).ReduceWindows (![R + 1, 1] : Fin 2 → ℕ) ![1, 1] ![R, 0] ![0, 0] ⟨2, ![R + 1, C]⟩)
    (j : Fin (R + 1)) (c : Fin C) :
    Ideal.hostReduceWindowAdd ![R + 1, 1] ![1, 1] ![R, 0] ![0, 0] h x init (ix2 j c) = ∑ i : Fin (R + 1), if i ≤ j then x (ix2 i c) else 0 := by
  have hj := j.isLt
  have hc := c.isLt
  have e := (foldl_add _ _ _ : Ideal.hostReduceWindowAdd ![R + 1, 1] ![1, 1] ![R, 0] ![0, 0] h x init (ix2 j c) = _)
  subst hinit
  refine e.trans ?_
  dsimp only
  rw [zero_add, ← Fin.sum_univ_def]
  have hf := sum_window (fun n => if hn : n < R + 1 then x (ix2 ⟨n, hn⟩ c) else 0) j
  have hr : (∑ i : Fin (R + 1), if i ≤ j then (if hn : i.val < R + 1 then x (ix2 ⟨i.val, hn⟩ c) else 0) else 0)
      = ∑ i : Fin (R + 1), if i ≤ j then x (ix2 i c) else 0 :=
    Finset.sum_congr rfl fun i _ => by rw [dif_pos i.isLt]
  rw [← hr, ← hf]
  refine Fintype.sum_equiv (finCongr (numel_col (R + 1))) _ _ fun n => ?_
  have hw0 : ((shape2 (R + 1) 1).rowMajor.symm n 0).val = n.val := by rw [symm_col]; rfl
  have hw1 : ((shape2 (R + 1) 1).rowMajor.symm n 1).val = 0 := by rw [symm_col]; rfl
  have hn : n.val < R + 1 := (n.cast (numel_col _)).isLt
  show _ = if R ≤ j.val + n.val then (if hn : j.val + n.val - R < R + 1 then x (ix2 ⟨j.val + n.val - R, hn⟩ c) else 0) else 0
  split
  · next hin =>
    have h0 := hin 0
    change R ≤ j.val * 1 + ((shape2 (R + 1) 1).rowMajor.symm n 0).val
      ∧ j.val * 1 + ((shape2 (R + 1) 1).rowMajor.symm n 0).val - R < R + 1 at h0
    rw [hw0] at h0
    rw [if_pos (by omega), dif_pos (by omega)]
    refine congrArg x (funext fun a => Fin.ext ?_)
    match a with
    | ⟨0, _⟩ =>
      show j.val * 1 + ((shape2 (R + 1) 1).rowMajor.symm n 0).val - R = j.val + n.val - R
      rw [hw0, Nat.mul_one]
    | ⟨1, _⟩ =>
      show c.val * 1 + ((shape2 (R + 1) 1).rowMajor.symm n 1).val - 0 = c.val
      rw [hw1]
      omega
  · next hin =>
    rw [if_neg fun hle => hin fun a => by
      match a with
      | ⟨0, _⟩ =>
        show R ≤ j.val * 1 + ((shape2 (R + 1) 1).rowMajor.symm n 0).val
          ∧ j.val * 1 + ((shape2 (R + 1) 1).rowMajor.symm n 0).val - R < R + 1
        rw [hw0]
        omega
      | ⟨1, _⟩ =>
        show 0 ≤ c.val * 1 + ((shape2 (R + 1) 1).rowMajor.symm n 1).val ∧ c.val * 1 + ((shape2 (R + 1) 1).rowMajor.symm n 1).val - 0 < C
        rw [hw1]
        omega]

/-- The same for a named number of rows. -/
theorem running_sum_of {N R C : ℕ} (e : N = R + 1) (x : Mat N C) (init : EReal) (hinit : init = 0)
    (h : (⟨2, ![N, C]⟩ : Shape).ReduceWindows (![N, 1] : Fin 2 → ℕ) ![1, 1] ![R, 0] ![0, 0] ⟨2, ![N, C]⟩) (j : Fin N) (c : Fin C) :
    Ideal.hostReduceWindowAdd ![N, 1] ![1, 1] ![R, 0] ![0, 0] h x init (ix2 j c) = ∑ i : Fin N, if i ≤ j then x (ix2 i c) else 0 := by
  subst e
  exact running_sum x init hinit h j c

end Cert.Layer

end
-- ==== Proof.Prep.lean ====
/-
  The queries, keys, values and bias lanes of the forgetting attention: what the kernel stores at one point of its grid, as
  functions of the blocks that it reads.
-/
module

public import proofs.«01_k».proof.Defs
public import proofs.«01_k».proof.Proof.PrepKernel
public import proofs.«01_k».proof.Proof.PrepSel
public import proofs.«01_k».proof.Proof.Cumsum
public import proofs.«01_k».proof.Proof.Gen.KernelPrepIdeal.Value
public import proofs.«01_k».proof.Proof.Gen.ReferencePrepIdeal.Run

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- The `n` columns from `off` on. -/
def cols (x : Mat 512 3584) (off n : ℕ) (h : off + n ≤ 3584) : Mat 512 n :=
  fun y => x (ix2 (y 0) ⟨off + (y 1).val, by have h1 : (y 1).val < n := (y 1).isLt; omega⟩)

/-- A load of whole rows from column `off` on reads these columns. -/
theorem ld_cols (x : Mat 512 3584) (off n : ℕ) (h : off + n ≤ 3584) (hr : ∀ a : Fin S512x3584.rank, (![0, off] : Fin 2 → ℕ) a + (![512, n] : Fin 2 → ℕ) a ≤ S512x3584.size a) :
    View.ld (Val := Elt Ideal) (S := S512x3584) (e' := EltTy.f32) x (Rect.unit (s := S512x3584) ![0, off] ![512, n] hr) = cols x off n h := by
  funext y
  refine congrArg x (funext fun a => Fin.ext ?_)
  match a with
  | ⟨0, _⟩ => show 0 + 1 * (y 0).val = (y 0).val; omega
  | ⟨1, _⟩ => show off + 1 * (y 1).val = off + (y 1).val; omega

/-- The queries of a point: over their root mean squares, with their gain and the scale. -/
def queries (x0 : Mat 512 3584) (g : Mat 1 1024) : Mat 512 1024 := fun y =>
  unit64 (fun k => cols x0 0 1024 (by decide) (ix2 (y 0) k)) (y 1) * g (ix2 0 (y 1)) * Ideal.ofBits FTy.f32 1043900987#32

/-- The keys of a point: over their root mean squares, with their gain. -/
def keys (x0 : Mat 512 3584) (g : Mat 1 1024) : Mat 512 1024 := fun y =>
  unit64 (fun k => cols x0 1024 1024 (by decide) (ix2 (y 0) k)) (y 1) * g (ix2 0 (y 1))

/-- The values of a point, transposed. -/
def values (x0 : Mat 512 3584) : Mat 1024 512 := fun y => cols x0 2048 1024 (by decide) (ix2 (y 1) (y 0))

/-- A forget gate of a point before the logarithm. -/
def gatePre (x0 : Mat 512 3584) (w : Mat 128 128) (b : Mat 1 128) : Fin 512 → Fin 128 → EReal :=
  pre (cols x0 3072 128 (by decide)) w b

/-- The sums of the logarithms of the forget gates up to each row of a point, after the sum `s` of the points before. -/
def sums (p : Fin 512 → Fin 128 → EReal) (s : Mat 1 128) : Mat 512 128 := fun y =>
  (∑ x : Fin 512, if x ≤ y 0 then logf (p x (y 1)) else 0) + s (ix2 0 (y 1))

/-- The sum that a point leaves for the next. -/
def carried (p : Fin 512 → Fin 128 → EReal) (s : Mat 1 128) : Mat 1 128 := fun y => sums p s (ix2 ⟨511, by decide⟩ (y 1))

/-- The key-side bias lanes of a point. -/
def lanes (part : Vec Ideal S1x128 .i32) (M : Mat 512 128) : Mat 512 128 := fun y =>
  if (y 1).val < 48 then (if part (ix2 0 (y 1)) = 0#32 then M y * Ideal.ofBits FTy.f32 3216550459#32 else 0)
  else if (y 1).val < 96 then 1 else 0

/-- The scale of the bias is a real number. -/
theorem isReal_word : IsReal (Ideal.ofBits FTy.f32 3216550459#32) := by
  unfold Ideal.ofBits Ideal.ieee
  simp
  exact ⟨_, rfl⟩

/-- Running sums of real gates, carried from a real row, are real. -/
theorem sums_isReal {p : Fin 512 → Fin 128 → EReal} {s : Mat 1 128} (hp : ∀ r l, IsReal (p r l)) (hs : ∀ y, IsReal (s y)) (y) :
    IsReal (sums p s y) :=
  (IsReal.sum _ fun x _ => by split_ifs; exacts [(hp _ _).logf, isReal_zero]).add (hs _)

/-- The bias of every lane: the running sum of its log gates, scaled. -/
theorem pay28_eq (v : Mat 512 128) (w : Mat 128 128) (b : Mat 1 128) (hv : ∀ y, IsReal (v y)) (hp : ∀ r l, IsReal (pre v w b r l)) (s : Mat 1 128) :
    k0_pay28 (F := Ideal) (k0_pay21 v w b) (k0_pay22 v w b) (FloatOps.ofBits FTy.f32 1065353216#32) s
      = fun y => sums (pre v w b) s y * Ideal.ofBits FTy.f32 3216550459#32 := by
  funext y
  unfold k0_pay28
  rw [pay23_eq v w b hv hp]
  rfl

/-- The row carried into the first block is zero. -/
theorem pay4_eq : k0_pay4 (F := Ideal) = fun _ => (0 : EReal) := by
  funext y
  unfold k0_pay4
  pointwise

section Bodies

variable (c : Dev nD) (i : grid0.Coords) (a1 : Memref sig .tc .vmem S512x3584 .f32) (h1 : a1.IsWhole)
  (a2 : Memref sig .tc .vmem S1x1024 .f32) (h2 : a2.IsWhole) (a3 : Memref sig .tc .vmem S1x1024 .f32) (h3 : a3.IsWhole)
  (a4 : Memref sig .tc .vmem S1x128 .f32) (h4 : a4.IsWhole) (a5 : Memref sig .tc .vmem S1x128 .i32) (h5 : a5.IsWhole)
  (a6 : Memref sig .tc .vmem S1024x128 .bf16) (h6 : a6.IsWhole) (a7 : Memref sig .tc .vmem S128x128 .bf16) (h7 : a7.IsWhole)
  (a8 : Memref sig .tc .vmem S512x1024 .bf16) (h8 : a8.IsWhole) (a9 : Memref sig .tc .vmem S512x1024 .bf16) (h9 : a9.IsWhole)
  (a10 : Memref sig .tc .vmem S1024x512 .bf16) (h10 : a10.IsWhole) (a11 : Memref sig .tc .vmem S512x128 .bf16) (h11 : a11.IsWhole)
  (a12 : Memref sig .tc .vmem S512x128 .bf16) (h12 : a12.IsWhole) (a13 : Memref sig .tc .vmem S8x128 .f32) (h13 : a13.IsWhole)
  (a14 : Memref sig .tc .vmem S1x128 .f32) (h14 : a14.IsWhole) (a15 : Memref sig .tc .vmem S1x1024 .f32) (h15 : a15.IsWhole)
  (a16 : Memref sig .tc .vmem S1x128 .f32) (h16 : a16.IsWhole)
  (x0 : Mat 512 3584) (x1 : Mat 1 1024) (x2 : Mat 1 1024) (x3 : Mat 1 128) (x4 : Vec Ideal S1x128 .i32) (x5 : Mat 1024 128)
  (x6 : Mat 128 128) (s0 : Mat 1 128) (s1 : Mat 1 1024) (s2 : Mat 1 128)

/-- The first point of the grid stores the queries of its rows. -/
theorem out_A7 (hc : cond0_0 i) (hx : ∀ y, IsReal (x0 y)) :
    out0_A_7 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6
      = queries x0 x1 := by
  funext y
  unfold out0_A_7
  frame_out
  rw [ld_cols x0 0 1024 (by decide), pay12_eq (cols x0 0 1024 (by decide)) fun y => hx _, pay13_eq]
  rfl

/-- The first point of the grid stores the keys of its rows. -/
theorem out_A8 (hc : cond0_0 i) (hx : ∀ y, IsReal (x0 y)) :
    out0_A_8 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6
      = keys x0 x2 := by
  funext y
  unfold out0_A_8
  frame_out
  rw [ld_cols x0 1024 1024 (by decide), pay14_eq (cols x0 1024 1024 (by decide)) fun y => hx _]
  rfl

/-- The first point of the grid stores the transposed values of its rows. -/
theorem out_A9 (hc : cond0_0 i) :
    out0_A_9 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6
      = values x0 := by
  funext y
  unfold out0_A_9
  frame_out
  rw [ld_cols x0 2048 1024 (by decide), pay15_eq]
  rfl

/-- The first point of the grid stores the bias lanes of its rows, the running sums beginning at zero. -/
theorem out_A11 (hc : cond0_0 i) (hx : ∀ y, IsReal (x0 y)) (hp : ∀ r l, IsReal (gatePre x0 x6 x3 r l)) :
    out0_A_11 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6
      = lanes x4 (sums (gatePre x0 x6 x3) (fun _ => 0)) := by
  funext y
  unfold out0_A_11
  frame_out
  rw [ld_cols x0 3072 128 (by decide)]
  rw [pay4_eq]
  rw [pay28_eq (cols x0 3072 128 (by decide)) _ _ (fun y => hx _) hp, pay29_eq _ _ fun y => (sums_isReal (p := pre (cols x0 3072 128 (by decide)) x6 x3) hp (fun _ => isReal_zero) _).mul isReal_word]
  rfl

/-- The first point of the grid carries on the running sums at its last row. -/
theorem sout_A0 (hc : cond0_0 i) (hx : ∀ y, IsReal (x0 y)) (hp : ∀ r l, IsReal (gatePre x0 x6 x3 r l)) :
    sout0_A_0 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6
      = carried (gatePre x0 x6 x3) (fun _ => 0) := by
  funext y
  unfold sout0_A_0
  frame_out
  rw [ld_cols x0 3072 128 (by decide)]
  rw [pay4_eq]
  rw [pay24_eq, pay23_eq (cols x0 3072 128 (by decide)) _ _ (fun y => hx _) hp]
  rfl

/-- A later point of the grid stores the queries of its rows. -/
theorem out_B7 (hc : ¬cond0_0 i) (hx : ∀ y, IsReal (x0 y)) :
    out0_B_7 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 s0 s1 s2
      = queries x0 x1 := by
  funext y
  unfold out0_B_7
  frame_out
  rw [ld_cols x0 0 1024 (by decide), pay12_eq (cols x0 0 1024 (by decide)) fun y => hx _, pay13_eq]
  rfl

/-- A later point of the grid stores the keys of its rows. -/
theorem out_B8 (hc : ¬cond0_0 i) (hx : ∀ y, IsReal (x0 y)) :
    out0_B_8 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 s0 s1 s2
      = keys x0 x2 := by
  funext y
  unfold out0_B_8
  frame_out
  rw [ld_cols x0 1024 1024 (by decide), pay14_eq (cols x0 1024 1024 (by decide)) fun y => hx _]
  rfl

/-- A later point of the grid stores the transposed values of its rows. -/
theorem out_B9 (hc : ¬cond0_0 i) :
    out0_B_9 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 s0 s1 s2
      = values x0 := by
  funext y
  unfold out0_B_9
  frame_out
  rw [ld_cols x0 2048 1024 (by decide), pay15_eq]
  rfl

/-- A later point of the grid stores the bias lanes of its rows, the running sums beginning at the carried row. -/
theorem out_B11 (hc : ¬cond0_0 i) (hx : ∀ y, IsReal (x0 y)) (hp : ∀ r l, IsReal (gatePre x0 x6 x3 r l)) (hs : ∀ y, IsReal (s0 y)) :
    out0_B_11 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 s0 s1 s2
      = lanes x4 (sums (gatePre x0 x6 x3) s0) := by
  funext y
  unfold out0_B_11
  frame_out
  rw [ld_cols x0 3072 128 (by decide)]
  rw [pay28_eq (cols x0 3072 128 (by decide)) _ _ (fun y => hx _) hp, pay29_eq _ _ fun y => (sums_isReal (p := pre (cols x0 3072 128 (by decide)) x6 x3) hp (hs) _).mul isReal_word]
  rfl

/-- A later point of the grid carries on the running sums at its last row. -/
theorem sout_B0 (hc : ¬cond0_0 i) (hx : ∀ y, IsReal (x0 y)) (hp : ∀ r l, IsReal (gatePre x0 x6 x3 r l)) :
    sout0_B_0 (F := Ideal) c i a1 h1 a2 h2 a3 h3 a4 h4 a5 h5 a6 h6 a7 h7 a8 h8 a9 h9 a10 h10 a11 h11 a12 h12 a13 h13 a14 h14 a15 h15 a16 h16 hc x0 x1 x2 x3 x4 x5 x6 s0 s1 s2
      = carried (gatePre x0 x6 x3) s0 := by
  funext y
  unfold sout0_B_0
  frame_out
  rw [ld_cols x0 3072 128 (by decide)]
  rw [pay24_eq, pay23_eq (cols x0 3072 128 (by decide)) _ _ (fun y => hx _) hp]
  rfl

end Bodies
end Cert.KernelPrepIdeal.Body
end
-- ==== Proof.PrepPoint.lean ====
/-
  The queries, keys, values and bias lanes of the forgetting attention: what the kernel reads at one point of its grid, as
  functions of the launched arguments.
-/
module

public import proofs.«01_k».proof.Defs
public import proofs.«01_k».proof.Proof.Prep

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- The sum of a list's entries up to `r`, as a sum over the numbers up to `r`. -/
theorem sum_upto {n : ℕ} (g : ℕ → EReal) (r : Fin n) : (∑ x : Fin n, if x ≤ r then g x.val else 0) = ∑ x ∈ Finset.range (r.val + 1), g x := by
  have hr := r.isLt
  refine (Fin.sum_univ_eq_sum_range (fun x => if x ≤ r.val then g x else 0) n).trans ?_
  rw [← Finset.sum_filter]
  refine Finset.sum_congr (Finset.ext fun x => ?_) fun _ _ => rfl
  rw [Finset.mem_filter, Finset.mem_range, Finset.mem_range]
  omega

variable (m : (ℓ : Loc nD τ sig) → Buf (Elt Ideal) ℓ)

/-- The launched projections. -/
abbrev argP (c : Dev nD) : Mat 8192 3584 := m ((c : Thread nD τ).loc main_arg0)
/-- The launched biases of the forget gates. -/
abbrev argB (c : Dev nD) : Mat 1 16 := m ((c : Thread nD τ).loc main_arg1)
/-- The launched gains of the queries. -/
abbrev argQ (c : Dev nD) : Mat 1 64 := m ((c : Thread nD τ).loc main_arg2)
/-- The launched gains of the keys. -/
abbrev argK (c : Dev nD) : Mat 1 64 := m ((c : Thread nD τ).loc main_arg3)

/-- The queries' gains as the host hands them over: the same 64 for each head. -/
theorem hostQ (c : Dev nD) (k : Fin 1024) : (V m c main_v13 : Mat 1 1024) (ix2 0 k) = argQ m c (ix2 0 ⟨k.val % 64, by omega⟩) := by
  unfold V
  after_reads_at

/-- The keys' gains as the host hands them over: the same 64 for each head. -/
theorem hostK (c : Dev nD) (k : Fin 1024) : (V m c main_v17 : Mat 1 1024) (ix2 0 k) = argK m c (ix2 0 ⟨k.val % 64, by omega⟩) := by
  unfold V
  after_reads_at

/-- The integer zero is the number zero. -/
theorem word_zero_real : FloatOps.sitofp (F := Ideal) FTy.f32 0#32 = (0 : EReal) := by
  show (((0#32).toInt : ℝ) : EReal) = 0
  simp

/-- The forget gates' biases as the host lays them out in lanes: each three times, twice over, then zeros. -/
theorem hostB (c : Dev nD) (k : Fin 128) : (V m c main_v7 : Mat 1 128) (ix2 0 k)
    = if h : k.val < 96 then argB m c (ix2 0 ⟨k.val % 48 / 3, by omega⟩) else 0 := by
  unfold V
  after_reads_at
  exact dite_congr rfl (fun _ => rfl) (fun _ => word_zero_real)

/-- Which part of its bias a lane holds, as the host numbers them. -/
theorem hostPart (c : Dev nD) (k : Fin 128)  : (V m c main_v20 : Vec Ideal S1x128 .i32) (ix2 0 k) = BitVec.ofNat 32 (k.val % 3) := by
  unfold V
  after_reads_at
  revert k
  decide +kernel

/-- An entry of a table is the entry at its place in row order. -/
theorem table_at (f : Fin (S128x128 : Shape).numel → BitVec 16) (k l : Fin 128) (h : 128 * k.val + l.val < (S128x128 : Shape).numel) :
    f (S128x128.rowMajor (ix2 k l)) = f ⟨128 * k.val + l.val, h⟩ := by
  refine congrArg f (Fin.ext ?_)
  refine (Shape.rowMajor_val_two _).trans ?_
  show k.val * 128 + l.val = 128 * k.val + l.val
  omega

/-- The host's table has a one where a lane takes its head's gate, and zeros elsewhere. -/
theorem hostSel (c : Dev nD) (k l : Fin 128) : (V m c main_cst_0 : Mat 128 128) (ix2 k l) = if l.val < 96 ∧ l.val % 48 / 3 = k.val then (1 : EReal) else (0 : EReal) := by
  unfold V
  after_reads_at
  rw [table_at lit1 k l (Nat.lt_of_lt_of_le (by omega : 128 * k.val + l.val < 16384) (by decide)), lit_eq]
  split_ifs
  · exact Ideal.ofBits_one_bf16
  · exact Ideal.ofBits_zero_bf16

/-- The place of window 0 at a point of the grid. -/
theorem idx0 : ∀ t : Fin cfg0.N, win0_0.index t = ![t.val, 0] :=
  (by decide +kernel : ∀ t : Fin grid0.N, win0_0.index t = ![t.val, 0])
/-- The place of window 1 at a point of the grid. -/
theorem idx1 : ∀ t : Fin cfg0.N, win0_1.index t = ![0, 0] :=
  (by decide +kernel : ∀ t : Fin grid0.N, win0_1.index t = ![0, 0])
/-- The place of window 2 at a point of the grid. -/
theorem idx2 : ∀ t : Fin cfg0.N, win0_2.index t = ![0, 0] :=
  (by decide +kernel : ∀ t : Fin grid0.N, win0_2.index t = ![0, 0])
/-- The place of window 3 at a point of the grid. -/
theorem idx3 : ∀ t : Fin cfg0.N, win0_3.index t = ![0, 0] :=
  (by decide +kernel : ∀ t : Fin grid0.N, win0_3.index t = ![0, 0])
/-- The place of window 4 at a point of the grid. -/
theorem idx4 : ∀ t : Fin cfg0.N, win0_4.index t = ![0, 0] :=
  (by decide +kernel : ∀ t : Fin grid0.N, win0_4.index t = ![0, 0])
/-- The place of window 6 at a point of the grid. -/
theorem idx6 : ∀ t : Fin cfg0.N, win0_6.index t = ![0, 0] :=
  (by decide +kernel : ∀ t : Fin grid0.N, win0_6.index t = ![0, 0])
/-- The place of window 7 at a point of the grid. -/
theorem idx7 : ∀ t : Fin cfg0.N, win0_7.index t = ![t.val, 0] :=
  (by decide +kernel : ∀ t : Fin grid0.N, win0_7.index t = ![t.val, 0])
/-- The place of window 8 at a point of the grid. -/
theorem idx8 : ∀ t : Fin cfg0.N, win0_8.index t = ![t.val, 0] :=
  (by decide +kernel : ∀ t : Fin grid0.N, win0_8.index t = ![t.val, 0])
/-- The place of window 9 at a point of the grid. -/
theorem idx9 : ∀ t : Fin cfg0.N, win0_9.index t = ![0, t.val] :=
  (by decide +kernel : ∀ t : Fin grid0.N, win0_9.index t = ![0, t.val])
/-- The place of window 11 at a point of the grid. -/
theorem idx11 : ∀ t : Fin cfg0.N, win0_11.index t = ![t.val, 0] :=
  (by decide +kernel : ∀ t : Fin grid0.N, win0_11.index t = ![t.val, 0])

/-- The row of the projections that row `r` of a point's block is. -/
abbrev rowOf (t : Fin cfg0.N) (r : Fin 512) : Fin 8192 :=
  ⟨512 * t.val + r.val, by have ht : t.val < 16 := t.isLt; have := r.isLt; omega⟩

/-- Row `r` of a point's block is row `512 t + r` of the projections. -/
theorem rows_at (c : Dev nD) (t : Fin cfg0.N) (r : Fin 512) (k : Fin 3584) :
    (iblk m c 0 t : Mat 512 3584) (ix2 r k) = argP m c (ix2 (rowOf t r) k) := by
  refine Eq.trans (congrArg (V m c main_arg0) (funext fun a => Fin.ext ?_)) (congrFun (V_main_arg0 m c) _)
  have e := idx0 t
  match a with
  | ⟨0, _⟩ =>
    show win0_0.index t 0 * 512 + 1 * r.val = 512 * t.val + r.val
    rw [e]; show t.val * 512 + 1 * r.val = _; omega
  | ⟨1, _⟩ =>
    show win0_0.index t 1 * 3584 + 1 * k.val = k.val
    rw [e]; show 0 * 3584 + 1 * k.val = _; omega

/-- The queries' gains that a point reads. -/
theorem gainQ_at (c : Dev nD) (t : Fin cfg0.N) (k : Fin 1024) : (iblk m c 1 t : Mat 1 1024) (ix2 0 k) = argQ m c (ix2 0 ⟨k.val % 64, by omega⟩) := by
  refine Eq.trans (congrArg (V m c main_v13) (funext fun a => Fin.ext ?_)) (hostQ m c k)
  have e := idx1 t
  match a with
  | ⟨0, _⟩ =>
    show win0_1.index t 0 * 1 + 1 * 0 = 0
    rw [e]; rfl
  | ⟨1, _⟩ =>
    show win0_1.index t 1 * 1024 + 1 * k.val = k.val
    rw [e]; show 0 * 1024 + 1 * k.val = _; omega

/-- The keys' gains that a point reads. -/
theorem gainK_at (c : Dev nD) (t : Fin cfg0.N) (k : Fin 1024) : (iblk m c 2 t : Mat 1 1024) (ix2 0 k) = argK m c (ix2 0 ⟨k.val % 64, by omega⟩) := by
  refine Eq.trans (congrArg (V m c main_v17) (funext fun a => Fin.ext ?_)) (hostK m c k)
  have e := idx2 t
  match a with
  | ⟨0, _⟩ =>
    show win0_2.index t 0 * 1 + 1 * 0 = 0
    rw [e]; rfl
  | ⟨1, _⟩ =>
    show win0_2.index t 1 * 1024 + 1 * k.val = k.val
    rw [e]; show 0 * 1024 + 1 * k.val = _; omega

/-- The forget gates' biases that a point reads. -/
theorem bias_at (c : Dev nD) (t : Fin cfg0.N) (k : Fin 128) : (iblk m c 3 t : Mat 1 128) (ix2 0 k)
    = if h : k.val < 96 then argB m c (ix2 0 ⟨k.val % 48 / 3, by omega⟩) else 0 := by
  refine Eq.trans (congrArg (V m c main_v7) (funext fun a => Fin.ext ?_)) (hostB m c k)
  have e := idx3 t
  match a with
  | ⟨0, _⟩ =>
    show win0_3.index t 0 * 1 + 1 * 0 = 0
    rw [e]; rfl
  | ⟨1, _⟩ =>
    show win0_3.index t 1 * 128 + 1 * k.val = k.val
    rw [e]; show 0 * 128 + 1 * k.val = _; omega

/-- The numbers of the parts that a point reads. -/
theorem part_at (c : Dev nD) (t : Fin cfg0.N) (k : Fin 128) : (iblk m c 4 t : Vec Ideal S1x128 .i32) (ix2 0 k) = BitVec.ofNat 32 (k.val % 3) := by
  refine Eq.trans (congrArg (V m c main_v20) (funext fun a => Fin.ext ?_)) (hostPart m c k)
  have e := idx4 t
  match a with
  | ⟨0, _⟩ =>
    show win0_4.index t 0 * 1 + 1 * 0 = 0
    rw [e]; rfl
  | ⟨1, _⟩ =>
    show win0_4.index t 1 * 128 + 1 * k.val = k.val
    rw [e]; show 0 * 128 + 1 * k.val = _; omega

/-- The table of the lanes that a point reads. -/
theorem sel_at (c : Dev nD) (t : Fin cfg0.N) (k l : Fin 128) : (iblk m c 6 t : Mat 128 128) (ix2 k l)
    = if l.val < 96 ∧ l.val % 48 / 3 = k.val then (1 : EReal) else (0 : EReal) := by
  refine Eq.trans (congrArg (V m c main_cst_0) (funext fun a => Fin.ext ?_)) (hostSel m c k l)
  have e := idx6 t
  match a with
  | ⟨0, _⟩ =>
    show win0_6.index t 0 * 128 + 1 * k.val = k.val
    rw [e]; show 0 * 128 + 1 * k.val = _; omega
  | ⟨1, _⟩ =>
    show win0_6.index t 1 * 128 + 1 * l.val = l.val
    rw [e]; show 0 * 128 + 1 * l.val = _; omega

/-- The forget gate before the logarithm that lane `l` of row `n` takes, with zero past the rows and the lanes. -/
def gate (P : Mat 8192 3584) (B : Mat 1 16) (l : Fin 128) (n : ℕ) : EReal :=
  if h : n < 8192 ∧ l.val < 96 then P (ix2 ⟨n, h.1⟩ ⟨3072 + l.val % 48 / 3, by omega⟩) + B (ix2 0 ⟨l.val % 48 / 3, by omega⟩) else 0

/-- The gates before the logistic function are real, when the projections and the biases are. -/
theorem gate_isReal {P : Mat 8192 3584} {B : Mat 1 16} (hP : ∀ y, IsReal (P y)) (hB : ∀ y, IsReal (B y)) (l n) : IsReal (gate P B l n) := by
  unfold gate
  split_ifs
  · exact (hP _).add (hB _)
  · exact isReal_zero

/-- A point's gates are those of its rows of the sequence. -/
theorem gate_at (c : Dev nD) (t : Fin cfg0.N) (r : Fin 512) (l : Fin 128) :
    gatePre (iblk m c 0 t) (iblk m c 6 t) (iblk m c 3 t) r l = gate (argP m c) (argB m c) l (512 * t.val + r.val) := by
  have hn : 512 * t.val + r.val < 8192 := (rowOf t r).isLt
  unfold gatePre pre gate
  rw [bias_at]
  by_cases hl : l.val < 96
  · rw [dif_pos hl, dif_pos ⟨hn, hl⟩]
    refine congrArg (· + _) ?_
    rw [Finset.sum_eq_single (⟨l.val % 48 / 3, by omega⟩ : Fin 128)]
    · rw [sel_at, if_pos ⟨hl, rfl⟩, mul_one]
      exact rows_at m c t r _
    · intro k _ hk
      rw [sel_at, if_neg (fun h => hk (Fin.ext h.2.symm)), mul_zero]
    · exact fun h => absurd (Finset.mem_univ _) h
  · rw [dif_neg hl, dif_neg (fun h => hl h.2), add_zero]
    refine Finset.sum_eq_zero fun k _ => ?_
    rw [sel_at, if_neg (fun h => hl h.1), mul_zero]

/-- The sum of the logarithms of the forget gates of the first `n` rows. -/
def total (P : Mat 8192 3584) (B : Mat 1 16) (l : Fin 128) (n : ℕ) : EReal := ∑ i ∈ Finset.range n, logf (gate P B l i)

/-- The sums of the log gates are real, when the projections and the biases are. -/
theorem total_isReal {P : Mat 8192 3584} {B : Mat 1 16} (hP : ∀ y, IsReal (P y)) (hB : ∀ y, IsReal (B y)) (l n) : IsReal (total P B l n) :=
  IsReal.sum _ fun i _ => (gate_isReal hP hB l i).logf

/-- A point's running sums reach from the sequence's first row to its own, when the carried row sums the rows before it. -/
theorem sums_at (c : Dev nD) (t : Fin cfg0.N) (s : Mat 1 128) (hs : ∀ l, s (ix2 0 l) = total (argP m c) (argB m c) l (512 * t.val))
    (r : Fin 512) (l : Fin 128) : sums (gatePre (iblk m c 0 t) (iblk m c 6 t) (iblk m c 3 t)) s (ix2 r l)
      = total (argP m c) (argB m c) l (512 * t.val + r.val + 1) := by
  show (∑ x : Fin 512, if x ≤ r then logf (gatePre (iblk m c 0 t) (iblk m c 6 t) (iblk m c 3 t) x l) else 0) + s (ix2 0 l) = _
  rw [hs, add_comm]
  unfold total
  rw [add_assoc, Finset.sum_range_add]
  refine congrArg (_ + ·) (Eq.trans (Finset.sum_congr rfl fun x _ => ?_)
    (sum_upto (fun x => logf (gate (argP m c) (argB m c) l (512 * t.val + x))) r))
  rw [gate_at]

end Cert.KernelPrepIdeal.Body
end
-- ==== Proof.PrepStep.lean ====
/-
  The queries, keys, values and bias lanes of the forgetting attention: what the kernel stores at every point of its grid,
  by an induction along it.
-/
module

public import proofs.«01_k».proof.Defs
public import proofs.«01_k».proof.Proof.PrepPoint

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

variable (m : (ℓ : Loc nD τ sig) → Buf (Elt Ideal) ℓ)

section Finite

variable (hP : ∀ c y, IsReal (argP m c y)) (hB : ∀ c y, IsReal (argB m c y))
include hP hB

/-- The projections that a point reads are real numbers. -/
theorem rows_isReal (c : Dev nD) (t : Fin cfg0.N) (y : S512x3584.Idx) : IsReal ((iblk m c 0 t : Mat 512 3584) y) := by
  rw [show (iblk m c 0 t : Mat 512 3584) y = (iblk m c 0 t : Mat 512 3584) (ix2 (y 0) (y 1)) from congrArg _ (eq_ix2 y)]
  have h := rows_at m c t (y 0) (y 1)
  exact h ▸ hP c _

/-- A point's gates before the logistic function are real numbers. -/
theorem gates_isReal (c : Dev nD) (t : Fin cfg0.N) (r l) : IsReal (gatePre (iblk m c 0 t) (iblk m c 6 t) (iblk m c 3 t) r l) := by
  rw [gate_at]
  exact gate_isReal (hP c) (hB c) _ _

/-- What a point leaves, where the point before leaves the sum of the logarithms of the forget gates so far. -/
theorem point_of (c : Dev nD) (t : Fin cfg0.N) (hprev : ∀ h : ¬ t.val % 16 = 0, (outsAt0 m c (t.val - 1) (Nat.lt_of_le_of_lt (Nat.sub_le _ _) t.isLt)).2.2.2.2.2.2.1
      = fun y : S1x128.Idx => total (argP m c) (argB m c) (y 1) (512 * t.val)) :
    (outsAt0 m c t.val t.isLt).1 = queries (iblk m c 0 t) (iblk m c 1 t)
      ∧ (outsAt0 m c t.val t.isLt).2.1 = keys (iblk m c 0 t) (iblk m c 2 t)
      ∧ (outsAt0 m c t.val t.isLt).2.2.1 = values (iblk m c 0 t)
      ∧ ∃ s : Mat 1 128, (∀ l, s (ix2 0 l) = total (argP m c) (argB m c) l (512 * t.val))
        ∧ (outsAt0 m c t.val t.isLt).2.2.2.2.1 = lanes (iblk m c 4 t) (sums (gatePre (iblk m c 0 t) (iblk m c 6 t) (iblk m c 3 t)) s)
        ∧ (outsAt0 m c t.val t.isLt).2.2.2.2.2.2.1 = carried (gatePre (iblk m c 0 t) (iblk m c 6 t) (iblk m c 3 t)) s := by
  have hx := rows_isReal m hP hB c t
  have hp := gates_isReal m hP hB c t
  by_cases h : t.val % 16 = 0
  · have ht : t.val < 16 := t.isLt
    have h0 : t.val = 0 := by omega
    rw [outsAt0_A m c t h]
    dsimp only
    refine ⟨?_, ?_, ?_, fun _ => (0 : EReal), ?_, ?_, ?_⟩
    · exact out_A7 (hx := hx) ..
    · exact out_A8 (hx := hx) ..
    · exact out_A9 ..
    · intro l
      rw [h0]
      exact (Finset.sum_range_zero _).symm
    · exact out_A11 (hx := hx) (hp := hp) ..
    · exact sout_A0 (hx := hx) (hp := hp) ..
  · have hs : ∀ y, IsReal ((outsAt0 m c (t.val - 1) (Nat.lt_of_le_of_lt (Nat.sub_le _ _) t.isLt)).2.2.2.2.2.2.1 y) := by
      rw [hprev h]
      exact fun y => total_isReal (hP c) (hB c) _ _
    rw [outsAt0_B m c t h]
    dsimp only
    refine ⟨?_, ?_, ?_, (outsAt0 m c (t.val - 1) (Nat.lt_of_le_of_lt (Nat.sub_le _ _) t.isLt)).2.2.2.2.2.2.1, ?_, ?_, ?_⟩
    · exact out_B7 (hx := hx) ..
    · exact out_B8 (hx := hx) ..
    · exact out_B9 ..
    · intro l
      exact congrFun (hprev h) (ix2 0 l)
    · exact out_B11 (hx := hx) (hp := hp) (hs := hs) ..
    · exact sout_B0 (hx := hx) (hp := hp) ..

/-- What a point leaves for the next is the sum of the logarithms of the forget gates so far. -/
theorem carry_eq (c : Dev nD) : ∀ (n : ℕ) (hn : n < cfg0.N), (outsAt0 m c n hn).2.2.2.2.2.2.1
    = fun y : S1x128.Idx => total (argP m c) (argB m c) (y 1) (512 * (n + 1)) := by
  have key : ∀ t : Fin cfg0.N, (∀ h : ¬ t.val % 16 = 0, (outsAt0 m c (t.val - 1) (Nat.lt_of_le_of_lt (Nat.sub_le _ _) t.isLt)).2.2.2.2.2.2.1
      = fun y : S1x128.Idx => total (argP m c) (argB m c) (y 1) (512 * t.val)) → (outsAt0 m c t.val t.isLt).2.2.2.2.2.2.1
    = fun y : S1x128.Idx => total (argP m c) (argB m c) (y 1) (512 * (t.val + 1)) := by
    intro t ht
    obtain ⟨_, _, _, s, hs, _, e⟩ := point_of m hP hB c t ht
    rw [e]
    funext y
    exact sums_at m c t s hs ⟨511, by decide⟩ (y 1)
  intro n
  induction n with
  | zero => exact fun hn => key ⟨0, hn⟩ (fun h => absurd rfl h)
  | succ n ih => exact fun hn => key ⟨n + 1, hn⟩ (fun _ => ih (Nat.lt_of_succ_lt hn))

/-- What a point stores, and the row that it carries on: the sums of the log gates of all rows up to its last. -/
theorem point_eq (c : Dev nD) (t : Fin cfg0.N) :
    (outsAt0 m c t.val t.isLt).1 = queries (iblk m c 0 t) (iblk m c 1 t)
      ∧ (outsAt0 m c t.val t.isLt).2.1 = keys (iblk m c 0 t) (iblk m c 2 t)
      ∧ (outsAt0 m c t.val t.isLt).2.2.1 = values (iblk m c 0 t)
      ∧ ∃ s : Mat 1 128, (∀ l, s (ix2 0 l) = total (argP m c) (argB m c) l (512 * t.val))
        ∧ (outsAt0 m c t.val t.isLt).2.2.2.2.1 = lanes (iblk m c 4 t) (sums (gatePre (iblk m c 0 t) (iblk m c 6 t) (iblk m c 3 t)) s)
        ∧ (outsAt0 m c t.val t.isLt).2.2.2.2.2.2.1 = carried (gatePre (iblk m c 0 t) (iblk m c 6 t) (iblk m c 3 t)) s := by
  refine point_of m hP hB c t fun h => ?_
  have hp := carry_eq m hP hB c (t.val - 1) (Nat.lt_of_le_of_lt (Nat.sub_le _ _) t.isLt)
  rw [hp, show t.val - 1 + 1 = t.val by omega]

end Finite

end Cert.KernelPrepIdeal.Body
end
-- ==== Proof.PrepFinal.lean ====
/-
  The queries, keys, values and bias lanes of the forgetting attention: what the kernel leaves after all points of its grid,
  as functions of the launched arguments.
-/
module

public import proofs.«01_k».proof.Defs
public import proofs.«01_k».proof.Proof.PrepStep

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

variable (m : (ℓ : Loc nD τ sig) → Buf (Elt Ideal) ℓ)

/-- The queries: over their root mean squares within their heads, with their gain and the scale. -/
def queryResult (P : Mat 8192 3584) (g : Mat 1 64) : Mat 8192 1024 := fun i =>
  unit64 (fun k => P (ix2 (i 0) ⟨k.val, by omega⟩)) (i 1)
    * g (ix2 0 ⟨(i 1).val % 64, by omega⟩) * Ideal.ofBits FTy.f32 1043900987#32

/-- The keys: over their root mean squares within their heads, with their gain. -/
def keyResult (P : Mat 8192 3584) (g : Mat 1 64) : Mat 8192 1024 := fun i =>
  unit64 (fun k => P (ix2 (i 0) ⟨1024 + k.val, by omega⟩)) (i 1) * g (ix2 0 ⟨(i 1).val % 64, by omega⟩)

/-- The values, transposed. -/
def valueResult (P : Mat 8192 3584) : Mat 1024 8192 := fun i =>
  P (ix2 (i 1) ⟨2048 + (i 0).val, by have h : (i 0).val < 1024 := (i 0).isLt; omega⟩)

/-- The key-side bias lanes: the sums of the logarithms of the forget gates in units of minus the logarithm of two, then ones. -/
def laneResult (P : Mat 8192 3584) (B : Mat 1 16) : Mat 8192 128 := fun i =>
  if (i 1).val < 48 then (if (i 1).val % 3 = 0 then total P B (i 1) ((i 0).val + 1) * Ideal.ofBits FTy.f32 3216550459#32 else 0)
  else if (i 1).val < 96 then 1 else 0

/-- The division by the root mean square of a head depends on the entries only. -/
theorem unit64_congr {z z' : Fin 1024 → EReal} (h : ∀ k, z k = z' k) (k : Fin 1024) : unit64 z k = unit64 z' k := by
  rw [funext h]

/-- A point's queries are rows of the queries of the whole sequence. -/
theorem queries_at (c : Dev nD) (t : Fin cfg0.N) (r : Fin 512) (k : Fin 1024) :
    queries (iblk m c 0 t) (iblk m c 1 t) (ix2 r k) = queryResult (argP m c) (argQ m c) (ix2 (rowOf t r) k) := by
  refine congrArg₂ (fun a b => a * b * _) (unit64_congr (fun j => ?_) k) (gainQ_at m c t k)
  refine (rows_at m c t r _).trans (entry_congr _ rfl ?_)
  show 0 + j.val = j.val
  omega

/-- A point's keys are rows of the keys of the whole sequence. -/
theorem keys_at (c : Dev nD) (t : Fin cfg0.N) (r : Fin 512) (k : Fin 1024) :
    keys (iblk m c 0 t) (iblk m c 2 t) (ix2 r k) = keyResult (argP m c) (argK m c) (ix2 (rowOf t r) k) :=
  congrArg₂ (· * ·) (unit64_congr (fun j => rows_at m c t r _) k) (gainK_at m c t k)

/-- A point's transposed values are columns of the transposed values of the whole sequence. -/
theorem values_at (c : Dev nD) (t : Fin cfg0.N) (r : Fin 512) (k : Fin 1024) :
    values (iblk m c 0 t) (ix2 k r) = valueResult (argP m c) (ix2 k (rowOf t r)) :=
  rows_at m c t r _

/-- Which lanes hold the first part of a bias. -/
theorem word_zero : ∀ l : Fin 128, BitVec.ofNat 32 (l.val % 3) = 0#32 ↔ l.val % 3 = 0 := by
  decide +kernel

/-- A row of lanes whose running sums reach this row is the row of the result. -/
theorem lanes_of (part : Vec Ideal S1x128 .i32) (M : Mat 512 128) (P : Mat 8192 3584) (B : Mat 1 16) (r : Fin 512) (row : Fin 8192)
    (l : Fin 128) (hp : part (ix2 0 l) = BitVec.ofNat 32 (l.val % 3)) (hM : M (ix2 r l) = total P B l (row.val + 1)) :
    lanes part M (ix2 r l) = laneResult P B (ix2 row l) := by
  have hp' : part (ix2 0 l) = 0#32 ↔ l.val % 3 = 0 := by rw [hp]; exact word_zero l
  by_cases h : l.val < 48
  · refine (if_pos h).trans (Eq.trans ?_ (if_pos h).symm)
    by_cases h' : l.val % 3 = 0
    · exact (if_pos (hp'.mpr h')).trans ((congrArg (· * _) hM).trans (if_pos h').symm)
    · exact (if_neg (fun e => h' (hp'.mp e))).trans (if_neg h').symm
  · exact (if_neg h).trans (if_neg h).symm

/-- A point's bias lanes are rows of the bias lanes of the whole sequence, when the carried row sums the rows before it. -/
theorem lanes_at (c : Dev nD) (t : Fin cfg0.N) (s : Mat 1 128) (hs : ∀ l, s (ix2 0 l) = total (argP m c) (argB m c) l (512 * t.val))
    (r : Fin 512) (l : Fin 128) : lanes (iblk m c 4 t) (sums (gatePre (iblk m c 0 t) (iblk m c 6 t) (iblk m c 3 t)) s) (ix2 r l)
      = laneResult (argP m c) (argB m c) (ix2 (rowOf t r) l) :=
  lanes_of _ _ _ _ r (rowOf t r) l (part_at m c t l) (sums_at m c t s hs r l)

section Final

variable (hP : ∀ c y, IsReal (argP m c y)) (hB : ∀ c y, IsReal (argB m c y))
include hP hB

/-- After all points the first array holds the queries. -/
theorem final7 (c : Dev nD) : (dats m 0 c).arrAt 7 cfg0.N = queryResult (argP m c) (argQ m c) := by
  refine (dats m 0 c).arrAt_eq_of_covers 7 _ (by decide +kernel) fun t hf y => ?_
  blk_simp
  rw [after0_7, (point_eq m hP hB c t).1]
  refine (congrArg _ (eq_ix2 y)).trans ((queries_at m c t (y 0) (y 1)).trans (congrArg (queryResult _ _) (funext fun a => Fin.ext ?_)))
  match a with
  | ⟨0, _⟩ =>
    show 512 * t.val + (y 0).val = win0_7.index t 0 * 512 + 1 * (y 0).val
    rw [idx7 t]; show _ = t.val * 512 + 1 * (y 0).val; omega
  | ⟨1, _⟩ =>
    show (y 1).val = win0_7.index t 1 * 1024 + 1 * (y 1).val
    rw [idx7 t]; show _ = 0 * 1024 + 1 * (y 1).val; omega

/-- After all points the second array holds the keys. -/
theorem final8 (c : Dev nD) : (dats m 0 c).arrAt 8 cfg0.N = keyResult (argP m c) (argK m c) := by
  refine (dats m 0 c).arrAt_eq_of_covers 8 _ (by decide +kernel) fun t hf y => ?_
  blk_simp
  rw [after0_8, (point_eq m hP hB c t).2.1]
  refine (congrArg _ (eq_ix2 y)).trans ((keys_at m c t (y 0) (y 1)).trans (congrArg (keyResult _ _) (funext fun a => Fin.ext ?_)))
  match a with
  | ⟨0, _⟩ =>
    show 512 * t.val + (y 0).val = win0_8.index t 0 * 512 + 1 * (y 0).val
    rw [idx8 t]; show _ = t.val * 512 + 1 * (y 0).val; omega
  | ⟨1, _⟩ =>
    show (y 1).val = win0_8.index t 1 * 1024 + 1 * (y 1).val
    rw [idx8 t]; show _ = 0 * 1024 + 1 * (y 1).val; omega

/-- After all points the third array holds the transposed values. -/
theorem final9 (c : Dev nD) : (dats m 0 c).arrAt 9 cfg0.N = valueResult (argP m c) := by
  refine (dats m 0 c).arrAt_eq_of_covers 9 _ (by decide +kernel) fun t hf y => ?_
  blk_simp
  rw [after0_9, (point_eq m hP hB c t).2.2.1]
  refine (congrArg _ (eq_ix2 y)).trans ((values_at m c t (y 1) (y 0)).trans (congrArg (valueResult _) (funext fun a => Fin.ext ?_)))
  match a with
  | ⟨0, _⟩ =>
    show (y 0).val = win0_9.index t 0 * 1024 + 1 * (y 0).val
    rw [idx9 t]; show _ = 0 * 1024 + 1 * (y 0).val; omega
  | ⟨1, _⟩ =>
    show 512 * t.val + (y 1).val = win0_9.index t 1 * 512 + 1 * (y 1).val
    rw [idx9 t]; show _ = t.val * 512 + 1 * (y 1).val; omega

/-- After all points the fifth array holds the key side's bias lanes. -/
theorem final11 (c : Dev nD) : (dats m 0 c).arrAt 11 cfg0.N = laneResult (argP m c) (argB m c) := by
  refine (dats m 0 c).arrAt_eq_of_covers 11 _ (by decide +kernel) fun t hf y => ?_
  blk_simp
  obtain ⟨s, hs, e, _⟩ := (point_eq m hP hB c t).2.2.2
  rw [after0_11, e]
  refine (congrArg _ (eq_ix2 y)).trans ((lanes_at m c t s hs (y 0) (y 1)).trans (congrArg (laneResult _ _) (funext fun a => Fin.ext ?_)))
  match a with
  | ⟨0, _⟩ =>
    show 512 * t.val + (y 0).val = win0_11.index t 0 * 512 + 1 * (y 0).val
    rw [idx11 t]; show _ = t.val * 512 + 1 * (y 0).val; omega
  | ⟨1, _⟩ =>
    show (y 1).val = win0_11.index t 1 * 128 + 1 * (y 1).val
    rw [idx11 t]; show _ = 0 * 128 + 1 * (y 1).val; omega

end Final

end Cert.KernelPrepIdeal.Body
end
-- ==== Proof.PrepTerm.lean ====
/-
  The queries, keys, values and bias lanes of the forgetting attention: what the reference computes.
-/
module

public import proofs.«01_k».proof.Defs
public import proofs.«01_k».proof.Proof.PrepFinal
public import proofs.«01_k».proof.Proof.Gen.Pre_finite_inputs

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- A number whose magnitude is below infinity is a real number. -/
theorem isReal_of_abs {z : EReal} (h : max z (-z) < ⊤) : IsReal z := by
  induction z with
  | bot => simp at h
  | top => simp at h
  | coe r => exact ⟨r, rfl⟩

/-- The word with which the precondition compares is infinity. -/
theorem inf_word : Ideal.ofBits FTy.f32 2139095040#32 = ⊤ := by
  unfold Ideal.ofBits Ideal.ieee
  simp

/-- A number that passes the test of the precondition is a real number. -/
theorem isReal_of_test {z : EReal} (h : FloatOps.cmpf (F := Ideal) (φ := FTy.f32) CmpFPredicate.olt (FloatOps.hostAbsf z) (FloatOps.ofBits (F := Ideal) FTy.f32 2139095040#32) = 1#1) :
    IsReal z := by
  have h' : BitVec.ofBool (decide (max z (-z) < Ideal.ofBits FTy.f32 2139095040#32)) = 1#1 := h
  rw [inf_word] at h'
  by_contra hn
  rw [decide_eq_false (fun hlt => hn (isReal_of_abs hlt))] at h'
  exact absurd h' (by decide)

/-- A quotient by 64 is a product with the reciprocal of 64. -/
theorem div_64 (z : EReal) : Ideal.div z (Ideal.ofBits FTy.f32 0x42800000#32) = z * Ideal.ofBits .f32 1015021568#32 := by
  have h1 : Ideal.ofBits FTy.f32 0x42800000#32 = ((64 : ℝ) : EReal) := by
    unfold Ideal.ofBits Ideal.ieee
    simp
    rw [← EReal.coe_mul]
    norm_num
  have h2 : Ideal.ofBits FTy.f32 1015021568#32 = ((1 / 64 : ℝ) : EReal) := by
    unfold Ideal.ofBits Ideal.ieee
    simp
    rw [← EReal.coe_mul]
    norm_num
  rw [h1, h2]
  exact Ideal.div_coe (by norm_num) z

/-- A row's entry over its root mean square within its head, as the reference takes it. -/
theorem rms_ref {f g : Fin 64 → EReal} (h : ∀ x, f x = g x) (a e : EReal) :
    a * Ideal.rsqrt (Ideal.div (∑ x, f x * f x) (Ideal.ofBits FTy.f32 1115684864#32) + e)
      = a * Ideal.rsqrt ((∑ x, g x * g x) * Ideal.ofBits FTy.f32 1015021568#32 + e) := by
  rw [funext h]
  exact congrArg (fun z => a * Ideal.rsqrt (z + e)) (div_64 _)

/-- The logarithm of a forget gate as the reference takes it. -/
theorem ref_logf (z : EReal) :
    -(if -z ≠ -z then -z else max (-z) 0 + Ideal.log1p (Ideal.exp (-FloatOps.absf (F := Ideal) (φ := FTy.f32) (-z)))) = logf z := by
  rw [if_neg (fun e => e rfl)]
  unfold logf
  rw [zero_sub, zero_sub]
  rfl

/-- One term of the reference's running sums. -/
theorem term_ref (P : Mat 8192 3584) (B : Mat 1 16) (l : Fin 128) (h48 : l.val < 48) (x : Fin 8192) :
    -(if -(P (ix2 x ⟨3072 + l.val / 3, by omega⟩) + B (ix2 0 ⟨l.val / 3, by omega⟩))
          ≠ -(P (ix2 x ⟨3072 + l.val / 3, by omega⟩) + B (ix2 0 ⟨l.val / 3, by omega⟩))
        then -(P (ix2 x ⟨3072 + l.val / 3, by omega⟩) + B (ix2 0 ⟨l.val / 3, by omega⟩))
        else max (-(P (ix2 x ⟨3072 + l.val / 3, by omega⟩) + B (ix2 0 ⟨l.val / 3, by omega⟩))) 0
          + Ideal.log1p (Ideal.exp (-FloatOps.absf (F := Ideal) (φ := FTy.f32)
              (-(P (ix2 x ⟨3072 + l.val / 3, by omega⟩) + B (ix2 0 ⟨l.val / 3, by omega⟩))))))
      = logf (gate P B l x.val) := by
  have hg : gate P B l x.val = P (ix2 x ⟨3072 + l.val / 3, by omega⟩) + B (ix2 0 ⟨l.val / 3, by omega⟩) := by
    unfold gate
    refine (dif_pos ⟨x.isLt, by omega⟩).trans ?_
    refine congrArg₂ (· + ·) (entry_congr P rfl ?_) (entry_congr B rfl ?_)
    · show 3072 + l.val % 48 / 3 = 3072 + l.val / 3
      omega
    · show l.val % 48 / 3 = l.val / 3
      omega
  rw [hg]
  exact ref_logf _

/-- A bias lane of the reference is that of the kernel, given the terms `f` of its running sums. -/
theorem lane_ref (P : Mat 8192 3584) (B : Mat 1 16) (r : Fin 8192) (l : Fin 128) (f : l.val < 48 → Fin 8192 → EReal)
    (hf : ∀ h x, f h x = logf (gate P B l x.val)) (w : EReal) (hw : w = 0) :
    (if h : l.val < 48 then (if _h : l.val / 3 < 16 ∧ l.val % 3 < 1 then (∑ x : Fin 8192, if x ≤ r then f h x else 0) * Ideal.ofBits FTy.f32 3216550459#32 else w)
      else if _h : l.val - 48 < 48 then 1 else 0)
    = if l.val < 48 then (if l.val % 3 = 0 then total P B l (r.val + 1) * Ideal.ofBits FTy.f32 3216550459#32 else 0) else if l.val < 96 then 1 else 0 := by
  by_cases h48 : l.val < 48
  · refine (dif_pos h48).trans (Eq.trans ?_ (if_pos h48).symm)
    by_cases h3 : l.val % 3 = 0
    · refine (dif_pos (⟨by omega, by omega⟩ : l.val / 3 < 16 ∧ l.val % 3 < 1)).trans (Eq.trans ?_ (if_pos h3).symm)
      refine congrArg (· * _) (Eq.trans ?_ (sum_upto (n := 8192) (fun n => logf (gate P B l n)) r))
      refine Finset.sum_congr rfl fun x _ => ?_
      rw [hf]
    · exact (dif_neg (fun e => h3 (by omega) : ¬(l.val / 3 < 16 ∧ l.val % 3 < 1))).trans (hw.trans (if_neg h3).symm)
  · refine (dif_neg h48).trans (Eq.trans ?_ (if_neg h48).symm)
    by_cases h96 : l.val < 96
    · exact (dif_pos (by omega : l.val - 48 < 48)).trans (if_pos h96).symm
    · exact (dif_neg (by omega : ¬l.val - 48 < 48)).trans (if_neg h96).symm

end Cert.KernelPrepIdeal.Body
end
-- ==== Proof.PrepRef.lean ====
/-
  The queries, keys, values and bias lanes of the forgetting attention: that the kernel and the reference leave the same on
  finite projections and biases.
-/
module

public import proofs.«01_k».proof.Defs
public import proofs.«01_k».proof.Proof.PrepTerm
public import Idealize.ShloMosaic.Lib.ReduceAll
public import proofs.«01_k».proof.Proof.Gen.Pre_finite_inputs

@[expose] public section

set_option maxRecDepth 16384

noncomputable section

open Idealize.ShloMosaic Idealize.ShloMosaic.TcCoe Idealize.SL.Sem Cert.Layer

namespace Cert.KernelPrepIdeal.Body

open Cert.KernelPrepIdeal Cert.KernelPrepIdeal.Gen

/-- The precondition says that the projections and the biases are real numbers. -/
theorem finite (x0 : Mat 8192 3584) (x1 : Mat 1 16) (x2 x3 : Mat 1 64)
    (h : Cert.Pre_finite_inputs.fn (F := Ideal) x0 x1 x2 x3 = fun _ => 1#1) : (∀ y, IsReal (x0 y)) ∧ ∀ y, IsReal (x1 y) := by
  have h0 := congrFun h ix0
  unfold Cert.Pre_finite_inputs.fn at h0
  have h1 := IntOp.andi_eq_one.mp h0
  refine ⟨fun y => isReal_of_test (Host.reduce_andi_all _ _ _ _ ix0 h1.1 y), fun y => isReal_of_test (Host.reduce_andi_all _ _ _ _ ix0 h1.2 y)⟩

/-- The running sums of the columns of a matrix. -/
theorem cumsum_of {N R C : ℕ} (e : N = R + 1) (x : Mat N C) (init : (⟨0, ![]⟩ : Shape).Idx → EReal) (h0 : init ix0 = 0)
    (h : (⟨2, ![N, C]⟩ : Shape).ReduceWindows (![N, 1] : Fin 2 → ℕ) ![1, 1] ![R, 0] ![0, 0] ⟨2, ![N, C]⟩)
    (hu : 0 < (⟨0, ![]⟩ : Shape).numel) :
    (Host.reduceWindowAdd (F := Ideal) (φ := FTy.f32) (s := ⟨2, ![N, C]⟩) (t := ⟨2, ![N, C]⟩) (u := ⟨0, ![]⟩) ![N, 1] ![1, 1] ![R, 0] ![0, 0] x init h hu : Mat N C)
      = fun i => ∑ n : Fin N, if n ≤ i 0 then x (ix2 n (i 1)) else 0 := by
  have hi : init (Shape.Idx.first hu) = 0 := (congrArg init (funext fun a => a.elim0)).trans h0
  funext i
  refine (congrArg _ (eq_ix2 i)).trans (running_sum_of e x _ hi h (i 0) (i 1))

/-- The running sums of the reference. -/
theorem cumsum_eq (x : Mat 8192 16) (init : (⟨0, ![]⟩ : Shape).Idx → EReal) (h0 : init ix0 = 0)
    (h : (⟨2, ![8192, 16]⟩ : Shape).ReduceWindows (![8192, 1] : Fin 2 → ℕ) ![1, 1] ![8191, 0] ![0, 0] ⟨2, ![8192, 16]⟩)
    (hu : 0 < (⟨0, ![]⟩ : Shape).numel) :
    (Host.reduceWindowAdd (F := Ideal) (φ := FTy.f32) (s := ⟨2, ![8192, 16]⟩) (t := ⟨2, ![8192, 16]⟩) (u := ⟨0, ![]⟩) ![8192, 1] ![1, 1] ![8191, 0] ![0, 0] x init h hu : Mat 8192 16)
      = fun i => ∑ n : Fin 8192, if n ≤ i 0 then x (ix2 n (i 1)) else 0 :=
  cumsum_of (by norm_num) x init h0 h hu

/-- On finite projections and biases the kernel and the reference leave the same queries, keys, values and bias lanes. -/
theorem algebraic : algebraic_KernelPrepIdeal_ReferencePrepIdeal_pre_finite_inputs := by
  intro m g m' g' hpre hagree
  have hf := fun c => finite _ _ _ _ (hpre c)
  have hP : ∀ c y, IsReal (argP m c y) := fun c => (hf c).1
  have hB : ∀ c y, IsReal (argB m c y) := fun c => (hf c).2
  refine ⟨fun c => queryResult (argP m c) (argQ m c), fun c => keyResult (argP m c) (argK m c), fun c => valueResult (argP m c),
    fun c => laneResult (argP m c) (argB m c), ?_, ?_⟩
  · refine (θ_run _ _ _).mono (fun r h c => ?_) (Value.run_blocks m g)
    obtain ⟨h7, h8, h9, _, h11, _, hargs⟩ := h c
    exact ⟨h7.trans (final7 m hP hB c), h8.trans (final8 m hP hB c), h9.trans (final9 m hP hB c), h11.trans (final11 m hP hB c), hargs⟩
  · refine (θ_run Cert.ReferencePrepIdeal.defs _ _).mono (fun r h c => ?_) (Cert.ReferencePrepIdeal.Value.run m' g')
    obtain ⟨hq, hk, hv, hl, hargs⟩ := h c
    have ha := hagree c
    refine ⟨hq.trans ?_, hk.trans ?_, hv.trans ?_, hl.trans ?_, hargs⟩
    · rw [ha.1, ha.2.2.1]
      funext i
      clean_types
      pointwise [queryResult, unit64]
      refine congrArg (· * _ * _) (rms_ref (fun x => entry_congr (argP m c) rfl ?_) _ _)
      show (i 1).val / 64 * 64 + x.val = 64 * ((i 1).val / 64) + x.val
      omega
    · rw [ha.1, ha.2.2.2]
      funext i
      clean_types
      pointwise [keyResult, unit64]
      refine congrArg (· * _) (rms_ref (fun x => entry_congr (argP m c) rfl ?_) _ _)
      show 1024 + ((i 1).val / 64 * 64 + x.val) = 1024 + (64 * ((i 1).val / 64) + x.val)
      omega
    · rw [ha.1]
      funext i
      clean_types
      pointwise [valueResult]
    · rw [ha.1, ha.2.1]
      rw [cumsum_eq _ _ (by pointwise)]
      funext i
      clean_types
      pointwise [laneResult]
      exact lane_ref (argP m c) (argB m c) (i 0) (i 1) _ (fun h x => term_ref (argP m c) (argB m c) (i 1) h x) _ word_zero_real

end Cert.KernelPrepIdeal.Body
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelRw
public import proofs.«01_k».proof.Proof.Gen.KernelRw.Skeleton
public import proofs.«01_k».proof.Proof.Gen.KernelRw.Launch
public import proofs.«01_k».proof.Proof.Gen.KernelRw.Points
public import proofs.«01_k».proof.Proof.Gen.KernelRw.Frame
public import proofs.«01_k».proof.Proof.Gen.KernelRwIdeal
public import proofs.«01_k».proof.Proof.Gen.KernelRwIdeal.Skeleton
public import proofs.«01_k».proof.Proof.Gen.KernelRwIdeal.Launch
public import proofs.«01_k».proof.Proof.Gen.KernelRwIdeal.Points
public import proofs.«01_k».proof.Proof.Gen.KernelRwIdeal.Frame
public import proofs.«01_k».proof.Proof.Gen.ReferenceRwIdeal
public import proofs.«01_k».proof.Proof.Gen.KernelFox
public import proofs.«01_k».proof.Proof.Gen.KernelFox.Skeleton
public import proofs.«01_k».proof.Proof.Gen.KernelFox.Launch
public import proofs.«01_k».proof.Proof.Gen.KernelFox.Points
public import proofs.«01_k».proof.Proof.Gen.KernelFox.Frame
public import proofs.«01_k».proof.Proof.Gen.KernelFoxIdeal
public import proofs.«01_k».proof.Proof.Gen.KernelFoxIdeal.Skeleton
public import proofs.«01_k».proof.Proof.Gen.KernelFoxIdeal.Launch
public import proofs.«01_k».proof.Proof.Gen.KernelFoxIdeal.Points
public import proofs.«01_k».proof.Proof.Gen.KernelFoxIdeal.Frame
public import proofs.«01_k».proof.Proof.Gen.ReferenceFoxIdeal
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlp.Frame
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.ReferenceMlpIdeal
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.ReferencePostIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelMem
public import proofs.«01_k».proof.Proof.Gen.KernelMem.Skeleton
public import proofs.«01_k».proof.Proof.Gen.KernelMem.Launch
public import proofs.«01_k».proof.Proof.Gen.KernelMem.Points
public import proofs.«01_k».proof.Proof.Gen.KernelMem.Frame
public import proofs.«01_k».proof.Proof.Gen.KernelMemIdeal
public import proofs.«01_k».proof.Proof.Gen.KernelMemIdeal.Skeleton
public import proofs.«01_k».proof.Proof.Gen.KernelMemIdeal.Launch
public import proofs.«01_k».proof.Proof.Gen.KernelMemIdeal.Points
public import proofs.«01_k».proof.Proof.Gen.KernelMemIdeal.Frame
public import proofs.«01_k».proof.Proof.Gen.ReferenceMemIdeal
public import proofs.«01_k».proof.Proof.Gen.KernelPrep
public import proofs.«01_k».proof.Proof.Gen.KernelPrep.Skeleton
public import proofs.«01_k».proof.Proof.Gen.KernelPrep.Launch
public import proofs.«01_k».proof.Proof.Gen.KernelPrep.Points
public import proofs.«01_k».proof.Proof.Gen.KernelPrep.Frame
public import proofs.«01_k».proof.Proof.Gen.KernelPrepIdeal
public import proofs.«01_k».proof.Proof.Gen.KernelPrepIdeal.Skeleton
public import proofs.«01_k».proof.Proof.Gen.KernelPrepIdeal.Launch
public import proofs.«01_k».proof.Proof.Gen.KernelPrepIdeal.Points
public import proofs.«01_k».proof.Proof.Gen.KernelPrepIdeal.Frame
public import proofs.«01_k».proof.Proof.Gen.ReferencePrepIdeal
public import proofs.«01_k».proof.Proof.Gen.Pre_finite_inputs
public import proofs.«01_k».proof.Proof.Gen.ReferenceIdeal.Run
public import proofs.«01_k».proof.Proof.Gen.KernelIdeal.Value
public import proofs.«01_k».proof.Proof.Gen.ReferenceRwIdeal.Run
public import proofs.«01_k».proof.Proof.Gen.KernelRwIdeal.Value
public import proofs.«01_k».proof.Proof.Gen.ReferenceFoxIdeal.Run
public import proofs.«01_k».proof.Proof.Gen.KernelFoxIdeal.Value
public import proofs.«01_k».proof.Proof.Gen.ReferenceMlpIdeal.Run
public import proofs.«01_k».proof.Proof.Gen.KernelMlpIdeal.Value
public import proofs.«01_k».proof.Proof.Gen.ReferencePostIdeal.Run
public import proofs.«01_k».proof.Proof.Gen.KernelPostIdeal.Value
public import proofs.«01_k».proof.Proof.Gates
public import proofs.«01_k».proof.Proof.Rw
public import proofs.«01_k».proof.Proof.Fox
public import proofs.«01_k».proof.Proof.Mlp
public import proofs.«01_k».proof.Proof.Post
public import proofs.«01_k».proof.Proof.PostRef
public import proofs.«01_k».proof.Proof.Gen.ReferenceNormIdeal.Run
public import proofs.«01_k».proof.Proof.Gen.KernelNormIdeal.Value
public import proofs.«01_k».proof.Proof.Norm
public import proofs.«01_k».proof.Proof.Gen.ReferenceMemIdeal.Run
public import proofs.«01_k».proof.Proof.Gen.KernelMemIdeal.Value
public import proofs.«01_k».proof.Proof.Mem
public import proofs.«01_k».proof.Proof.Gen.ReferencePrepIdeal.Run
public import proofs.«01_k».proof.Proof.Gen.KernelPrepIdeal.Value
public import proofs.«01_k».proof.Proof.PrepRef
public import Idealize.ShloMosaic.Adequacy
public import Idealize.ShloMosaic.Init

@[expose] public section

noncomputable section

namespace Cert.Proof

open Idealize.ShloMosaic Idealize.SL.Sem Cert.Kernel

/-- The reference runs, its arguments end unchanged, and every counter ends at zero. -/
theorem frame_Reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference runs, its arguments end unchanged, and every counter ends at zero. -/
theorem frame_ReferenceRw : Cert.quiescent_ReferenceRwIdeal := fun m g _ =>
  (θ_run Cert.ReferenceRwIdeal.defs _ _).mono (fun r h => ⟨fun c => (h c).2, sem_eq_zero_of_no_sems (by decide) r.2⟩)
    (Cert.ReferenceRwIdeal.Value.run m g)

/-- The reference runs, its arguments end unchanged, and every counter ends at zero. -/
theorem frame_ReferenceFox : Cert.quiescent_ReferenceFoxIdeal := fun m g _ =>
  (θ_run Cert.ReferenceFoxIdeal.defs _ _).mono (fun r h => ⟨fun c => (h c).2, sem_eq_zero_of_no_sems (by decide) r.2⟩)
    (Cert.ReferenceFoxIdeal.Value.run m g)

/-- The reference runs, its arguments end unchanged, and every counter ends at zero. -/
theorem frame_ReferenceMlp : Cert.quiescent_ReferenceMlpIdeal := fun m g _ =>
  (θ_run Cert.ReferenceMlpIdeal.defs _ _).mono (fun r h => ⟨fun c => (h c).2, sem_eq_zero_of_no_sems (by decide) r.2⟩)
    (Cert.ReferenceMlpIdeal.Value.run m g)

/-- The reference runs, its arguments end unchanged, and every counter ends at zero. -/
theorem frame_ReferencePost : Cert.quiescent_ReferencePostIdeal := fun m g _ =>
  (θ_run Cert.ReferencePostIdeal.defs _ _).mono (fun r h => ⟨fun c => (h c).2, sem_eq_zero_of_no_sems (by decide) r.2⟩)
    (Cert.ReferencePostIdeal.Value.run m g)

/-- The reference runs, its arguments end unchanged, and every counter ends at zero. -/
theorem frame_ReferenceNorm : Cert.quiescent_ReferenceNormIdeal := fun m g _ =>
  (θ_run Cert.ReferenceNormIdeal.defs _ _).mono (fun r h => ⟨fun c => (h c).2, sem_eq_zero_of_no_sems (by decide) r.2⟩)
    (Cert.ReferenceNormIdeal.Value.run m g)

/-- The reference runs, its arguments end unchanged, and every counter ends at zero. -/
theorem frame_ReferenceMem : Cert.quiescent_ReferenceMemIdeal := fun m g _ =>
  (θ_run Cert.ReferenceMemIdeal.defs _ _).mono (fun r h => ⟨fun c => (h c).2, sem_eq_zero_of_no_sems (by decide) r.2⟩)
    (Cert.ReferenceMemIdeal.Value.run m g)

/-- The reference runs, its arguments end unchanged, and every counter ends at zero. -/
theorem frame_ReferencePrep : Cert.quiescent_ReferencePrepIdeal := fun m g _ =>
  (θ_run Cert.ReferencePrepIdeal.defs _ _).mono (fun r h => ⟨fun c => (h c).2.2.2.2, sem_eq_zero_of_no_sems (by decide) r.2⟩)
    (Cert.ReferencePrepIdeal.Value.run m g)

/-- All the claims of the certificate. -/
theorem claim : Cert.Claim := ⟨Cert.Kernel.Gen.facts, Cert.KernelIdeal.Gen.facts, Cert.ReferenceIdeal.Gen.facts, Cert.KernelRw.Gen.facts, Cert.KernelRwIdeal.Gen.facts, Cert.ReferenceRwIdeal.Gen.facts, Cert.KernelFox.Gen.facts, Cert.KernelFoxIdeal.Gen.facts, Cert.ReferenceFoxIdeal.Gen.facts, Cert.KernelMlp.Gen.facts, Cert.KernelMlpIdeal.Gen.facts, Cert.ReferenceMlpIdeal.Gen.facts, Cert.KernelPost.Gen.facts, Cert.KernelPostIdeal.Gen.facts, Cert.ReferencePostIdeal.Gen.facts, Cert.KernelNorm.Gen.facts, Cert.KernelNormIdeal.Gen.facts, Cert.ReferenceNormIdeal.Gen.facts, Cert.KernelMem.Gen.facts, Cert.KernelMemIdeal.Gen.facts, Cert.ReferenceMemIdeal.Gen.facts, Cert.KernelPrep.Gen.facts, Cert.KernelPrepIdeal.Gen.facts, Cert.ReferencePrepIdeal.Gen.facts, Cert.Pre_finite_inputs.Gen.facts,
  fun m g _ => Cert.Kernel.Gen.frame m g, fun m g _ => Cert.KernelIdeal.Gen.frame m g, frame_Reference,
  fun m g _ => Cert.KernelRw.Gen.frame m g, fun m g _ => Cert.KernelRwIdeal.Gen.frame m g, frame_ReferenceRw,
  fun m g _ => Cert.KernelFox.Gen.frame m g, fun m g _ => Cert.KernelFoxIdeal.Gen.frame m g, frame_ReferenceFox,
  fun m g _ => Cert.KernelMlp.Gen.frame m g, fun m g _ => Cert.KernelMlpIdeal.Gen.frame m g, frame_ReferenceMlp,
  fun m g _ => Cert.KernelPost.Gen.frame m g, fun m g _ => Cert.KernelPostIdeal.Gen.frame m g, frame_ReferencePost,
  fun m g _ => Cert.KernelNorm.Gen.frame m g, fun m g _ => Cert.KernelNormIdeal.Gen.frame m g, frame_ReferenceNorm,
  fun m g _ => Cert.KernelMem.Gen.frame m g, fun m g _ => Cert.KernelMemIdeal.Gen.frame m g, frame_ReferenceMem,
  fun m g _ => Cert.KernelPrep.Gen.frame m g, fun m g _ => Cert.KernelPrepIdeal.Gen.frame m g,
  fun m g _ => Cert.KernelPrepIdeal.Gen.frame m g, frame_ReferencePrep, fun m g _ => frame_ReferencePrep m g trivial,
  trivial, Cert.KernelIdeal.Body.algebraic,
  trivial, Cert.KernelRwIdeal.Body.algebraic,
  trivial, Cert.KernelFoxIdeal.Body.algebraic,
  trivial, Cert.KernelMlpIdeal.Body.algebraic,
  trivial, Cert.ReferencePostIdeal.Body.algebraic,
  trivial, Cert.KernelNormIdeal.Body.algebraic,
  trivial, Cert.KernelMemIdeal.Body.algebraic,
  trivial, Cert.KernelPrepIdeal.Body.algebraic⟩

end Cert.Proof

end
